-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S512x1024 : Shape := ⟨2, ![512, 1024]⟩
abbrev S2x3x512x128 : Shape := ⟨4, ![2, 3, 512, 128]⟩
abbrev S2x6 : Shape := ⟨2, ![2, 6]⟩
abbrev S_ : Shape := ⟨0, ![]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x1 : Shape := ⟨2, ![1, 1]⟩
abbrev S1x1x512x128 : Shape := ⟨4, ![1, 1, 512, 128]⟩

abbrev nBuf : Space → Nat
  | .hbm => 6
  | .vmem => 8
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S512x1024, .f32⟩
  | .local _ .vmem, ⟨6, _⟩ => ⟨S512x1024, .f32⟩
  | .local _ .vmem, ⟨7, _⟩ => ⟨S2x3x512x128, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c8_i32 : BitVec 32) (c0_i32_86 : BitVec 32) : Fin 2 → Nat :=
  let c0_i32_111 : BitVec 32 := 0#32
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v238 : BitVec 32 := Scalar.addi v2 c8_i32
  let v239 : BitVec 32 := Scalar.subi v238 c0_i32_86
  let c4_i32_87 : BitVec 32 := 4#32
  let c0_i32_88 : BitVec 32 := 0#32
  let v240 : BitVec 1 := Scalar.cmpi .eq c4_i32_87 c0_i32_88
  let c1_i32_89 : BitVec 32 := 1#32
  let v241 : BitVec 32 := Scalar.select v240 c1_i32_89 c4_i32_87
  let v242 : BitVec 32 := Scalar.remsi v239 v241
  let c0_i32_91 : BitVec 32 := 0#32
  let v244 : BitVec 1 := Scalar.cmpi .slt v242 c0_i32_91
  let c0_i32_92 : BitVec 32 := 0#32
  let v245 : BitVec 1 := Scalar.cmpi .slt v241 c0_i32_92
  let v246 : BitVec 1 := Scalar.xori v244 v245
  let c0_i32_90 : BitVec 32 := 0#32
  let v243 : BitVec 1 := Scalar.cmpi .ne v242 c0_i32_90
  let v247 : BitVec 1 := Scalar.andi v246 v243
  let v248 : BitVec 32 := Scalar.addi v242 v241
  let v249 : BitVec 32 := Scalar.select v247 v248 v242
  let c128_i32 : BitVec 32 := 128#32
  let v261 : BitVec 32 := Scalar.muli v249 c128_i32
  let v262 : BitVec 32 := Scalar.addi c0_i32_100 v261
  ![0, v262.toNat]
def k0_dev3 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_107 : BitVec 32 := 1#32
  let v263 : BitVec 32 := Scalar.muli v25 c1_i32_107
  let v264 : BitVec 32 := Scalar.addi c0_i32_108 v263
  v264.toNat
def k0_off2 (d0 : Dev nD) (c0_i32_93 : BitVec 32) : Fin 2 → Nat :=
  let c0_i32_123 : BitVec 32 := 0#32
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v250 : BitVec 32 := Scalar.addi v2 c0_i32_93
  let c4_i32_94 : BitVec 32 := 4#32
  let c0_i32_95 : BitVec 32 := 0#32
  let v251 : BitVec 1 := Scalar.cmpi .eq c4_i32_94 c0_i32_95
  let c1_i32_96 : BitVec 32 := 1#32
  let v252 : BitVec 32 := Scalar.select v251 c1_i32_96 c4_i32_94
  let v253 : BitVec 32 := Scalar.remsi v250 v252
  let c0_i32_98 : BitVec 32 := 0#32
  let v255 : BitVec 1 := Scalar.cmpi .slt v253 c0_i32_98
  let c0_i32_99 : BitVec 32 := 0#32
  let v256 : BitVec 1 := Scalar.cmpi .slt v252 c0_i32_99
  let v257 : BitVec 1 := Scalar.xori v255 v256
  let c0_i32_97 : BitVec 32 := 0#32
  let v254 : BitVec 1 := Scalar.cmpi .ne v253 c0_i32_97
  let v258 : BitVec 1 := Scalar.andi v257 v254
  let v259 : BitVec 32 := Scalar.addi v253 v252
  let v260 : BitVec 32 := Scalar.select v258 v259 v253
  let c128_i32_112 : BitVec 32 := 128#32
  let v272 : BitVec 32 := Scalar.muli v260 c128_i32_112
  let v273 : BitVec 32 := Scalar.addi c512_i32 v272
  ![0, v273.toNat]
def k0_dev4 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_119 : BitVec 32 := 1#32
  let v274 : BitVec 32 := Scalar.muli v14 c1_i32_119
  let v275 : BitVec 32 := Scalar.addi c0_i32_120 v274
  v275.toNat
def k0_off3 (d0 : Dev nD) (c0_i32_166 : BitVec 32) : Fin 2 → Nat :=
  let c0_183 : Index := 0#32
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c7_i32 : BitVec 32 := 7#32
  let v307 : BitVec 32 := Scalar.addi v2 c7_i32
  let v308 : BitVec 32 := Scalar.subi v307 c0_i32_166
  let c4_i32_167 : BitVec 32 := 4#32
  let c0_i32_168 : BitVec 32 := 0#32
  let v309 : BitVec 1 := Scalar.cmpi .eq c4_i32_167 c0_i32_168
  let c1_i32_169 : BitVec 32 := 1#32
  let v310 : BitVec 32 := Scalar.select v309 c1_i32_169 c4_i32_167
  let v311 : BitVec 32 := Scalar.remsi v308 v310
  let c0_i32_171 : BitVec 32 := 0#32
  let v313 : BitVec 1 := Scalar.cmpi .slt v311 c0_i32_171
  let c0_i32_172 : BitVec 32 := 0#32
  let v314 : BitVec 1 := Scalar.cmpi .slt v310 c0_i32_172
  let v315 : BitVec 1 := Scalar.xori v313 v314
  let c0_i32_170 : BitVec 32 := 0#32
  let v312 : BitVec 1 := Scalar.cmpi .ne v311 c0_i32_170
  let v316 : BitVec 1 := Scalar.andi v315 v312
  let v317 : BitVec 32 := Scalar.addi v311 v310
  let v318 : BitVec 32 := Scalar.select v316 v317 v311
  let c128_i32_181 : BitVec 32 := 128#32
  let v331 : BitVec 32 := Scalar.muli v318 c128_i32_181
  let v332 : BitVec 32 := Scalar.addi c0_i32_182 v331
  let v333 : Index := Scalar.indexCast v332
  ![0, v333.toNat]
def k0_off4 (d0 : Dev nD) (c0_i32_173 : BitVec 32) : Fin 2 → Nat :=
  let c0_191 : Index := 0#32
  let c512_i32_190 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v319 : BitVec 32 := Scalar.addi v2 c0_i32_173
  let c1_i32_174 : BitVec 32 := 1#32
  let v320 : BitVec 32 := Scalar.addi v319 c1_i32_174
  let c4_i32_175 : BitVec 32 := 4#32
  let c0_i32_176 : BitVec 32 := 0#32
  let v321 : BitVec 1 := Scalar.cmpi .eq c4_i32_175 c0_i32_176
  let c1_i32_177 : BitVec 32 := 1#32
  let v322 : BitVec 32 := Scalar.select v321 c1_i32_177 c4_i32_175
  let v323 : BitVec 32 := Scalar.remsi v320 v322
  let c0_i32_179 : BitVec 32 := 0#32
  let v325 : BitVec 1 := Scalar.cmpi .slt v323 c0_i32_179
  let c0_i32_180 : BitVec 32 := 0#32
  let v326 : BitVec 1 := Scalar.cmpi .slt v322 c0_i32_180
  let v327 : BitVec 1 := Scalar.xori v325 v326
  let c0_i32_178 : BitVec 32 := 0#32
  let v324 : BitVec 1 := Scalar.cmpi .ne v323 c0_i32_178
  let v328 : BitVec 1 := Scalar.andi v327 v324
  let v329 : BitVec 32 := Scalar.addi v323 v322
  let v330 : BitVec 32 := Scalar.select v328 v329 v323
  let c128_i32_189 : BitVec 32 := 128#32
  let v341 : BitVec 32 := Scalar.muli v330 c128_i32_189
  let v342 : BitVec 32 := Scalar.addi c512_i32_190 v341
  let v343 : Index := Scalar.indexCast v342
  ![0, v343.toNat]
def k0_dev5 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_219 : BitVec 32 := 1#32
  let v376 : BitVec 32 := Scalar.muli v25 c1_i32_219
  let v377 : BitVec 32 := Scalar.addi c0_i32_220 v376
  v377.toNat
def k0_dev6 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_232 : BitVec 32 := 1#32
  let v387 : BitVec 32 := Scalar.muli v14 c1_i32_232
  let v388 : BitVec 32 := Scalar.addi c0_i32_233 v387
  v388.toNat
def k0_dev7 (d0 : Dev nD) : Nat :=
  let c0_i32_335 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_334 : BitVec 32 := 1#32
  let v489 : BitVec 32 := Scalar.muli v25 c1_i32_334
  let v490 : BitVec 32 := Scalar.addi c0_i32_335 v489
  v490.toNat
def k0_dev8 (d0 : Dev nD) : Nat :=
  let c0_i32_348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_347 : BitVec 32 := 1#32
  let v500 : BitVec 32 := Scalar.muli v14 c1_i32_347
  let v501 : BitVec 32 := Scalar.addi c0_i32_348 v500
  v501.toNat
def k0_dev9 (d0 : Dev nD) : Nat :=
  let c0_i32_448 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_447 : BitVec 32 := 1#32
  let v605 : BitVec 32 := Scalar.muli v25 c1_i32_447
  let v606 : BitVec 32 := Scalar.addi c0_i32_448 v605
  v606.toNat
def k0_off5 (d0 : Dev nD) (c0_i32_433 : BitVec 32) : Fin 2 → Nat :=
  let c0_i32_461 : BitVec 32 := 0#32
  let c512_i32_454 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c7_i32_432 : BitVec 32 := 7#32
  let v589 : BitVec 32 := Scalar.addi v2 c7_i32_432
  let v590 : BitVec 32 := Scalar.addi v589 c0_i32_433
  let c4_i32_434 : BitVec 32 := 4#32
  let c0_i32_435 : BitVec 32 := 0#32
  let v591 : BitVec 1 := Scalar.cmpi .eq c4_i32_434 c0_i32_435
  let c1_i32_436 : BitVec 32 := 1#32
  let v592 : BitVec 32 := Scalar.select v591 c1_i32_436 c4_i32_434
  let v593 : BitVec 32 := Scalar.remsi v590 v592
  let c0_i32_438 : BitVec 32 := 0#32
  let v595 : BitVec 1 := Scalar.cmpi .slt v593 c0_i32_438
  let c0_i32_439 : BitVec 32 := 0#32
  let v596 : BitVec 1 := Scalar.cmpi .slt v592 c0_i32_439
  let v597 : BitVec 1 := Scalar.xori v595 v596
  let c0_i32_437 : BitVec 32 := 0#32
  let v594 : BitVec 1 := Scalar.cmpi .ne v593 c0_i32_437
  let v598 : BitVec 1 := Scalar.andi v597 v594
  let v599 : BitVec 32 := Scalar.addi v593 v592
  let v600 : BitVec 32 := Scalar.select v598 v599 v593
  let c128_i32_453 : BitVec 32 := 128#32
  let v615 : BitVec 32 := Scalar.muli v600 c128_i32_453
  let v616 : BitVec 32 := Scalar.addi c512_i32_454 v615
  ![0, v616.toNat]
def k0_dev10 (d0 : Dev nD) : Nat :=
  let c0_i32_460 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_459 : BitVec 32 := 1#32
  let v617 : BitVec 32 := Scalar.muli v14 c1_i32_459
  let v618 : BitVec 32 := Scalar.addi c0_i32_460 v617
  v618.toNat
def k0_dev11 (d0 : Dev nD) : Nat :=
  let c0_i32_518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_517 : BitVec 32 := 1#32
  let v673 : BitVec 32 := Scalar.muli v25 c1_i32_517
  let v674 : BitVec 32 := Scalar.addi c0_i32_518 v673
  v674.toNat
def k0_dev12 (d0 : Dev nD) : Nat :=
  let c0_i32_530 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_529 : BitVec 32 := 1#32
  let v685 : BitVec 32 := Scalar.muli v14 c1_i32_529
  let v686 : BitVec 32 := Scalar.addi c0_i32_530 v685
  v686.toNat
def k0_dev13 (d0 : Dev nD) : Nat :=
  let c0_i32_587 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_586 : BitVec 32 := 1#32
  let v741 : BitVec 32 := Scalar.muli v25 c1_i32_586
  let v742 : BitVec 32 := Scalar.addi c0_i32_587 v741
  v742.toNat
def k0_dev14 (d0 : Dev nD) : Nat :=
  let c0_i32_599 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_598 : BitVec 32 := 1#32
  let v753 : BitVec 32 := Scalar.muli v14 c1_i32_598
  let v754 : BitVec 32 := Scalar.addi c0_i32_599 v753
  v754.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x4096 : Shape := ⟨2, ![1024, 4096]⟩
abbrev S4096x1024 : Shape := ⟨2, ![4096, 1024]⟩
abbrev S1x512x4096 : Shape := ⟨3, ![1, 512, 4096]⟩
abbrev S1x512x32x128 : Shape := ⟨4, ![1, 512, 32, 128]⟩
abbrev S_ : Shape := ⟨0, ![]⟩
abbrev S1x32x512x1 : Shape := ⟨4, ![1, 32, 512, 1]⟩
abbrev S1x32x512x512 : Shape := ⟨4, ![1, 32, 512, 512]⟩
abbrev S1x32x512 : Shape := ⟨3, ![1, 32, 512]⟩
abbrev S1x512x32x1 : Shape := ⟨4, ![1, 512, 32, 1]⟩
abbrev S1x32x128x512 : Shape := ⟨4, ![1, 32, 128, 512]⟩
abbrev S512x1024 : Shape := ⟨2, ![512, 1024]⟩

abbrev nBuf : Space → Nat
  | .hbm => 47
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S4096x1024, .f32⟩
  | .hbm, ⟨5, _⟩ => ⟨S1x512x4096, .f32⟩
  | .hbm, ⟨6, _⟩ => ⟨S1x512x32x128, .f32⟩
  | .hbm, ⟨7, _⟩ => ⟨S1x512x4096, .f32⟩
  | .hbm, ⟨8, _⟩ => ⟨S1x512x32x128, .f32⟩
  | .hbm, ⟨9, _⟩ => ⟨S1x512x4096, .f32⟩
  | .hbm, ⟨10, _⟩ => ⟨S1x512x32x128, .f32⟩
  | .hbm, ⟨11, _⟩ => ⟨S_, .f32⟩
  | .hbm, ⟨12, _⟩ => ⟨S1x512x32x128, .f32⟩
  | .hbm, ⟨13, _⟩ => ⟨S_, .f32⟩
  | .hbm, ⟨14, _⟩ => ⟨S1x32x512x1, .f32⟩
  | .hbm, ⟨15, _⟩ => ⟨S_, .f32⟩
  | .hbm, ⟨16, _⟩ => ⟨S1x32x512x1, .f32⟩
  | .hbm, ⟨17, _⟩ => ⟨S1x32x512x512, .f32⟩
  | .hbm, ⟨18, _⟩ => ⟨S_, .f32⟩
  | .hbm, ⟨19, _⟩ => ⟨S1x32x512x512, .f32⟩
  | .hbm, ⟨20, _⟩ => ⟨S1x32x512x512, .f32⟩
  | .hbm, ⟨21, _⟩ => ⟨S_, .f32⟩
  | .hbm, ⟨22, _⟩ => ⟨S1x32x512, .f32⟩
  | .hbm, ⟨23, _⟩ => ⟨S1x32x512x1, .f32⟩
  | .hbm, ⟨24, _⟩ => ⟨S1x32x512x1, .f32⟩
  | .hbm, ⟨25, _⟩ => ⟨S1x32x512x1, .f32⟩
  | .hbm, ⟨26, _⟩ => ⟨S1x32x512x1, .f32⟩
  | .hbm, ⟨27, _⟩ => ⟨S1x32x512x512, .f32⟩
  | .hbm, ⟨28, _⟩ => ⟨S1x32x512x512, .f32⟩
  | .hbm, ⟨29, _⟩ => ⟨S1x32x512x512, .f32⟩
  | .hbm, ⟨30, _⟩ => ⟨S1x32x512x1, .f32⟩
  | .hbm, ⟨31, _⟩ => ⟨S_, .f32⟩
  | .hbm, ⟨32, _⟩ => ⟨S1x32x512, .f32⟩
  | .hbm, ⟨33, _⟩ => ⟨S1x32x512x1, .f32⟩
  | .hbm, ⟨34, _⟩ => ⟨S1x32x512x1, .f32⟩
  | .hbm, ⟨35, _⟩ => ⟨S1x512x32x1, .f32⟩
  | .hbm, ⟨36, _⟩ => ⟨S1x512x32x128, .f32⟩
  | .hbm, ⟨37, _⟩ => ⟨S1x512x32x128, .f32⟩
  | .hbm, ⟨38, _⟩ => ⟨S1x32x128x512, .f32⟩
  | .hbm, ⟨39, _⟩ => ⟨S1x512x32x128, .f32⟩
  | .hbm, ⟨40, _⟩ => ⟨S1x512x32x128, .f32⟩
  | .hbm, ⟨41, _⟩ => ⟨S1x512x32x1, .f32⟩
  | .hbm, ⟨42, _⟩ => ⟨S1x512x32x128, .f32⟩
  | .hbm, ⟨43, _⟩ => ⟨S1x512x32x128, .f32⟩
  | .hbm, ⟨44, _⟩ => ⟨S1x512x4096, .f32⟩
  | .hbm, ⟨45, _⟩ => ⟨S1x512x1024, .f32⟩
  | .hbm, ⟨46, _⟩ => ⟨S512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Proof.MeshKernelIdeal.lean ====
/-
# The ring of four devices, its messages and their buffers

Four devices stand in a ring. Every device sends twelve messages: six rightwards (direction `false`) and six leftwards
(direction `true`), numbered by the step `s = 0 … 5`. Steps 0, 1, 2 are the reduce-scatter, steps 3, 4, 5 the all-gather.
The result buffer of a device (512 × 1024) is cut into eight column chunks of 128: chunks 0 … 3 travel rightwards, chunks
4 … 7 leftwards. This module names the neighbours, the chunks, the landing slots, and what chunk each message carries.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.ShloMosaic.TcCoe

/-! ## Neighbours -/

set_option backward.proofsInPublic true in
/-- The device that a message of direction `d` goes to: the right neighbour for `false`, the left one for `true`. -/
def into (d : Bool) (c : Dev nD) : Dev nD := ⟨(c.val + bif d then 3 else 1) % 4, Nat.mod_lt _ (by decide)⟩

/-- Going there and coming back. -/
theorem into_not_into (d : Bool) (c : Dev nD) : into (!d) (into d c) = c := by revert d c; decide
theorem into_into_not (d : Bool) (c : Dev nD) : into d (into (!d) c) = c := by revert d c; decide

/-- The ring's step in direction `d`, a permutation of the devices. -/
def turn (d : Bool) : Dev nD ≃ Dev nD := ⟨into d, into (!d), into_not_into d, into_into_not d⟩

/-- The two signals of the entry handshake go left and right. -/
theorem dev1_eq (c : Dev nD) : (⟨k0_dev1 c, k0_dev1_lt c⟩ : Dev nD) = into true c := by revert c; decide +kernel
theorem dev2_eq (c : Dev nD) : (⟨k0_dev2 c, k0_dev2_lt c⟩ : Dev nD) = into false c := by revert c; decide +kernel
/-- The twelve transfers go right and left in turn. -/
theorem dev3_eq (c : Dev nD) : (⟨k0_dev3 c, k0_dev3_lt c⟩ : Dev nD) = into false c := by revert c; decide +kernel
theorem dev4_eq (c : Dev nD) : (⟨k0_dev4 c, k0_dev4_lt c⟩ : Dev nD) = into true c := by revert c; decide +kernel
theorem dev5_eq (c : Dev nD) : (⟨k0_dev5 c, k0_dev5_lt c⟩ : Dev nD) = into false c := by revert c; decide +kernel
theorem dev6_eq (c : Dev nD) : (⟨k0_dev6 c, k0_dev6_lt c⟩ : Dev nD) = into true c := by revert c; decide +kernel
theorem dev7_eq (c : Dev nD) : (⟨k0_dev7 c, k0_dev7_lt c⟩ : Dev nD) = into false c := by revert c; decide +kernel
theorem dev8_eq (c : Dev nD) : (⟨k0_dev8 c, k0_dev8_lt c⟩ : Dev nD) = into true c := by revert c; decide +kernel
theorem dev9_eq (c : Dev nD) : (⟨k0_dev9 c, k0_dev9_lt c⟩ : Dev nD) = into false c := by revert c; decide +kernel
theorem dev10_eq (c : Dev nD) : (⟨k0_dev10 c, k0_dev10_lt c⟩ : Dev nD) = into true c := by revert c; decide +kernel
theorem dev11_eq (c : Dev nD) : (⟨k0_dev11 c, k0_dev11_lt c⟩ : Dev nD) = into false c := by revert c; decide +kernel
theorem dev12_eq (c : Dev nD) : (⟨k0_dev12 c, k0_dev12_lt c⟩ : Dev nD) = into true c := by revert c; decide +kernel
theorem dev13_eq (c : Dev nD) : (⟨k0_dev13 c, k0_dev13_lt c⟩ : Dev nD) = into false c := by revert c; decide +kernel
theorem dev14_eq (c : Dev nD) : (⟨k0_dev14 c, k0_dev14_lt c⟩ : Dev nD) = into true c := by revert c; decide +kernel

/-! ## Chunks -/

/-- The chunk that message `s` of direction `d` of device `c` carries: rightwards chunk `c - s` of the first four,
    leftwards chunk `c + s` of the last four, both modulo 4. -/
def blk (d : Bool) (s : ℕ) (c : Dev nD) : Fin 8 :=
  ⟨(bif d then 4 else 0) + (c.val + (bif d then s else 3 * s)) % 4, by cases d <;> simp <;> omega⟩

/-- The chunk numbers repeat after four steps. -/
theorem blk_add_four (d : Bool) (s : ℕ) (c : Dev nD) : blk d (s + 4) c = blk d s c := by
  cases d <;> simp only [blk, cond_true, cond_false, Fin.mk.injEq] <;> omega
/-- What arrives at step `s` is the chunk to be sent at step `s + 1`. -/
theorem blk_into (d : Bool) (s : ℕ) (c : Dev nD) : blk d (s + 1) (into d c) = blk d s c := by
  cases d <;> simp only [blk, into, cond_true, cond_false, Fin.mk.injEq] <;> omega

/-- A chunk's first column. -/
abbrev at128 (b : Fin 8) : Fin 2 → ℕ := ![0, 128 * b.val]
theorem at128_inb (b : Fin 8) : ∀ a, at128 b a + S512x128.size a ≤ S512x1024.size a := by revert b; decide

theorem off1_8_eq (c : Dev nD) : ∀ s : Fin 3, k0_off1 c 8#32 (BitVec.ofNat 32 s.val) = at128 (blk false s.val c) := by
  revert c; decide +kernel
theorem off1_9_eq (c : Dev nD) : ∀ s : Fin 3, k0_off1 c 9#32 (BitVec.ofNat 32 s.val) = at128 (blk false (s.val + 3) c) := by
  revert c; decide +kernel
theorem off2_eq (c : Dev nD) : ∀ s : Fin 3, k0_off2 c (BitVec.ofNat 32 s.val) = at128 (blk true s.val c) := by
  revert c; decide +kernel
theorem off3_eq (c : Dev nD) : ∀ s : Fin 3, k0_off3 c (BitVec.ofNat 32 s.val) = at128 (blk false (s.val + 1) c) := by
  revert c; decide +kernel
theorem off4_eq (c : Dev nD) : ∀ s : Fin 3, k0_off4 c (BitVec.ofNat 32 s.val) = at128 (blk true (s.val + 1) c) := by
  revert c; decide +kernel
theorem off5_eq (c : Dev nD) : ∀ s : Fin 3, k0_off5 c (BitVec.ofNat 32 s.val) = at128 (blk true (s.val + 3) c) := by
  revert c; decide +kernel

/-! ## The buffers -/

/-- The result's staging buffer and the landing buffer of the reduce-scatter. -/
abbrev oM : Memref sig .tc .vmem S512x1024 .f32 := Memref.whole cc0_stg5_0
abbrev gM : Memref sig .tc .vmem S2x3x512x128 .f32 := Memref.whole cc0_scratch1

/-- Chunk `b` as a rectangle of the result buffer, and as a memref. -/
abbrev chR (b : Fin 8) : Rect S512x1024 := Rect.unit (s := S512x1024) (at128 b) S512x128.size (at128_inb b)
abbrev chM (b : Fin 8) : Memref sig .tc .vmem S512x128 .f32 := oM.slice (chR b) (fun _ => rfl)

/-- Where a slot of the landing buffer begins. -/
abbrev slotAt (d : Bool) (s : Fin 3) : Fin 4 → ℕ := ![d.toNat, s.val, 0, 0]
theorem slotAt_inb (d : Bool) (s : Fin 3) : ∀ a, slotAt d s a + S1x1x512x128.size a ≤ S2x3x512x128.size a := by
  revert d s; decide
/-- Slot `(d, s)` as a rectangle of the landing buffer, and as a 512 × 128 memref. -/
abbrev slR (d : Bool) (s : Fin 3) : Rect S2x3x512x128 := Rect.unit (s := S2x3x512x128) (slotAt d s) S1x1x512x128.size (slotAt_inb d s)
abbrev slM (d : Bool) (s : Fin 3) : Memref sig .tc .vmem S512x128 .f32 :=
  (gM.slice (slR d s) (fun _ => rfl)).squeeze S512x128 squeezes_S1x1x512x128_S512x128

/-- Where message `(d, s)` of device `c` lands on its neighbour: its slot for the reduce-scatter, the very chunk it was
    read from for the all-gather. -/
def landM (d : Bool) (s : Fin 6) (c : Dev nD) : Memref sig .tc .vmem S512x128 .f32 :=
  if h : s.val < 3 then slM d ⟨s.val, h⟩ else chM (blk d s.val c)

/-- The message that is the `n`-th to be started, and the number of a message. -/
abbrev msgOf (n : ℕ) : Bool × Fin 6 := (decide (n % 2 = 1), ⟨n / 2 % 6, Nat.mod_lt _ (by decide)⟩)

/-! ## The semaphores -/

/-- The runtime's barrier semaphore. -/
abbrev barS : Sem sig := (SemArray.scalar (sig.barrier 0 rfl) : Sems sig S_).sem

/-- The DMA semaphore of message `(d, s)` at its sender (`r = false`) or at its receiver (`r = true`). -/
def xsem (r d : Bool) (s : Fin 6) : DmaSem sig :=
  ⟨6 + (bif r then 12 else 0) + (bif d then 6 else 0) + s.val, by
    have := s.isLt; cases r <;> cases d <;> simp <;> omega⟩

/-- The cells of a device: its barrier cell and two for each message. -/
abbrev Cell : Type := Option (Bool × Bool × Fin 6)

/-- A cell's semaphore. -/
def csem : Cell → SemLoc sig
  | none => .reg barS
  | some (r, d, s) => .dma (xsem r d s)

/-- A cell of a device. -/
abbrev cellAt (c : Dev nD) (k : Cell) : GSem nD τ sig := ((c : Thread nD τ), csem k)
abbrev barCell (c : Dev nD) : GSem nD τ sig := ((c : Thread nD τ), .reg barS)
abbrev xCell (r d : Bool) (s : Fin 6) (c : Dev nD) : GSem nD τ sig := ((c : Thread nD τ), .dma (xsem r d s))

/-- Which message end a DMA semaphore serves. -/
def whose (q : DmaSem sig) : Bool × Bool × Fin 6 :=
  (decide (18 ≤ q.val), decide (6 ≤ (q.val - 6) % 12), ⟨q.val % 6, Nat.mod_lt _ (by decide)⟩)
theorem whose_xsem (r d : Bool) (s : Fin 6) : whose (xsem r d s) = (r, d, s) := by revert r d s; decide
theorem xsem_ge (r d : Bool) (s : Fin 6) : 6 ≤ (xsem r d s).val := by revert r d s; decide
theorem csem_injective : Function.Injective csem := by decide +kernel

/-- The credit of one message. -/
abbrev N : ℕ := (chM 0).view.dmaCredit
theorem N_pos : 0 < N := View.dmaCredit_pos _ (by decide)
theorem credit_ch (b : Fin 8) : (chM b).view.dmaCredit = N := rfl
theorem credit_sl (d : Bool) (s : Fin 3) : (slM d s).view.dmaCredit = N := rfl
theorem credit_land (d : Bool) (s : Fin 6) (c : Dev nD) : (landM d s c).view.dmaCredit = N := by
  unfold landM; split
  · exact credit_sl _ _
  · exact credit_ch _

end Cert.KernelIdeal.Ring

end
-- ==== Proof.ScheduleKernelIdeal.lean ====
/-
# The protocol: who pays what into which cell, and with which contents

Every device has one barrier cell and, for each of its twelve messages, a cell counting the message out and a cell counting
the neighbour's message in; each cell is used for one round.

* Barrier cell of `c`: one unit from each neighbour. The neighbour that `c` sends to in direction `d` hands over its three
  landing slots of that direction, which is what `c` will write in the reduce-scatter.
* Outgoing cell of message `(d, s)`: the chunk that was read comes back.
* Incoming cell of message `(d, s)`: the memory written by the sender, holding the sender's chunk. Messages of steps 1, 2, 3
  besides hand over the chunk that the sender has finished sending in the other direction one step before: it is what the
  receiver will write in the all-gather.

The schedule is stated over any family `P` of 512 × 1024 arrays, one for each device, to be added up around the ring.
-/
module

public import proofs.«01_k».proof.Proof.MeshKernelIdeal

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Contents -/

/-- Chunk `b` of a 512 × 1024 array. -/
def part (A : Vec F S512x1024 .f32) (b : Fin 8) : Vec F S512x128 .f32 := fun j => A ((chR b).emb j)

/-- What message `s` of direction `d` of device `c` carries: at first the device's own chunk; in the reduce-scatter what
    the neighbour behind sent a step before, added to the device's own chunk; in the all-gather just what it sent. -/
def val (P : Dev nD → Vec F S512x1024 .f32) (d : Bool) : ℕ → Dev nD → Vec F S512x128 .f32
  | 0, c => part (P c) (blk d 0 c)
  | s + 1, c => if s < 3 then addf (part (P c) (blk d (s + 1) c)) (val P d s (into (!d) c)) else val P d s (into (!d) c)

/-- A reduce-scatter step adds. -/
theorem val_add (P : Dev nD → Vec F S512x1024 .f32) (d : Bool) (s : ℕ) (h : s < 3) (c : Dev nD) :
    val P d (s + 1) c = addf (part (P c) (blk d (s + 1) c)) (val P d s (into (!d) c)) := by
  rw [val, if_pos h]
/-- An all-gather step forwards. -/
theorem val_keep (P : Dev nD → Vec F S512x1024 .f32) (d : Bool) (s : ℕ) (h : 3 ≤ s) (c : Dev nD) :
    val P d (s + 1) c = val P d s (into (!d) c) := by
  rw [val, if_neg (Nat.not_lt.2 h)]

/-! ## Ownership of chunks, slots and landings -/

/-- Device `c` owns the memref, holding `X`. -/
abbrev holds (c : Dev nD) (M : Memref sig .tc .vmem S512x128 .f32) (X : Vec F S512x128 .f32) : sProp 𝕄 :=
  owns (Ix := Unit) (Name := ℕ) (U := UU) (Lvl := ℕ) (c : Thread nD τ) M fullShare X

/-- Device `c` owns the memref, holding something. -/
abbrev room (c : Dev nD) (M : Memref sig .tc .vmem S512x128 .f32) : sProp 𝕄 := iprop(∃ X, holds (F := F) c M X)

omit [FloatOps F] in
instance holds_storable (c : Dev nD) (M) (X) : BI.Storable (upEmb : UEmb _ 𝕄) (holds (F := F) c M X) := by
  unfold holds owns; infer_instance
omit [FloatOps F] in
instance room_storable (c : Dev nD) (M) : BI.Storable (upEmb : UEmb _ 𝕄) (room (F := F) c M) := by
  unfold room; infer_instance

/-- What message `(d, s)` of device `c` hands over besides its landing: at `s = 1, 2, 3` the chunk sent the other way at
    step `s - 1`. -/
def extra (d : Bool) (c : Dev nD) : ℕ → sProp 𝕄
  | 0 => iprop(emp)
  | s + 1 => if s < 3 then room (F := F) c (chM (blk (!d) s c)) else iprop(emp)

omit [FloatOps F] in
instance extra_storable (d : Bool) (c : Dev nD) (s : ℕ) : BI.Storable (upEmb : UEmb _ 𝕄) (extra (F := F) d c s) := by
  rcases s with - | s
  · exact (inferInstance : BI.Storable upEmb (iprop(emp) : sProp 𝕄))
  · show BI.Storable upEmb (if s < 3 then room (F := F) c (chM (blk (!d) s c)) else iprop(emp))
    split <;> infer_instance

/-- Duty `d` of the barrier cell of `c`: the three landing slots of direction `d` of the neighbour in that direction. -/
def slots (d : Bool) (n : Dev nD) : sProp 𝕄 :=
  iprop(room (F := F) n (slM d 0) ∗ room (F := F) n (slM d 1) ∗ room (F := F) n (slM d 2))

omit [FloatOps F] in
instance slots_storable (d : Bool) (n : Dev nD) : BI.Storable (upEmb : UEmb _ 𝕄) (slots (F := F) d n) := by
  unfold slots; infer_instance

variable (P : Dev nD → Vec F S512x1024 .f32)

/-- What an outgoing cell returns: the chunk read. -/
abbrev backPay (d : Bool) (s : Fin 6) (c : Dev nD) : sProp 𝕄 := holds c (chM (blk d s.val c)) (val P d s.val c)
/-- What an incoming cell of `n` gets, from the neighbour `o` behind: the landing and what is handed over besides. -/
abbrev landPay (d : Bool) (s : Fin 6) (o n : Dev nD) : sProp 𝕄 :=
  iprop(holds n (landM d s o) (val P d s.val o) ∗ extra d o s.val)

/-- The payload of a DMA cell of `c`. -/
def xPay (c : Dev nD) : Bool × Bool × Fin 6 → sProp 𝕄
  | (false, d, s) => backPay P d s c
  | (true, d, s) => landPay P d s (into (!d) c) c

instance xPay_storable (c : Dev nD) (k : Bool × Bool × Fin 6) : BI.Storable (upEmb : UEmb _ 𝕄) (xPay P c k) := by
  obtain ⟨r, d, s⟩ := k
  cases r <;> unfold xPay <;> infer_instance

/-- The schedule. -/
def ringRd : Rounds.Schedule (GSem nD τ sig) Bool 𝕄 where
  duties g r := if r = 0 ∧ g.1.2 = .tc then
      (match g.2 with
        | .reg q => if q = barS then Finset.univ else ∅
        | .dma q => if 6 ≤ q.val then {false} else ∅)
    else ∅
  unitless _ := False
  amount g _ _ := match g.2 with
    | .reg _ => 1
    | .dma _ => N
  payload g _ d := match g.2 with
    | .reg _ => slots d (into d g.1.1)
    | .dma q => xPay P g.1.1 (whose q)
  amount_pos g _ _ _ := by
    cases g.2
    · exact Nat.one_pos
    · exact N_pos

instance ringRd_payload_storable (g : GSem nD τ sig) (r : ℕ) (d : Bool) :
    BI.Storable (upEmb : UEmb _ 𝕄) ((ringRd P).payload g r d) := by
  obtain ⟨t, q⟩ := g
  cases q
  · show BI.Storable upEmb (slots (F := F) d (into d t.1)); infer_instance
  · show BI.Storable upEmb (xPay P t.1 (whose _)); infer_instance

section Tables
variable (c : Dev nD)

theorem duties_bar : (ringRd P).duties (barCell c) 0 = Finset.univ := by
  dsimp only [ringRd]; rw [if_pos ⟨rfl, rfl⟩]; exact if_pos rfl
theorem duties_x (r d : Bool) (s : Fin 6) : (ringRd P).duties (xCell r d s c) 0 = {false} := by
  dsimp only [ringRd]; rw [if_pos ⟨rfl, rfl⟩]; exact if_pos (xsem_ge r d s)
theorem duties_later (g : GSem nD τ sig) : ∀ r, 1 ≤ r → (ringRd P).duties g r = ∅ :=
  fun r hr => by dsimp only [ringRd]; rw [if_neg fun h => by omega]

theorem amount_bar (d : Bool) : (ringRd P).amount (barCell c) 0 d = 1 := rfl
theorem amount_x (r d : Bool) (s : Fin 6) (b : Bool) : (ringRd P).amount (xCell r d s c) 0 b = N := rfl

theorem expect_bar : (ringRd P).expect (barCell c) 0 = 2 := by
  unfold Schedule.expect Schedule.amountOf
  rw [duties_bar, Finset.sum_congr rfl fun d _ => amount_bar P c d, Finset.sum_const, Finset.card_univ, Fintype.card_bool, smul_eq_mul]
theorem expect_x (r d : Bool) (s : Fin 6) : (ringRd P).expect (xCell r d s c) 0 = N := by
  unfold Schedule.expect Schedule.amountOf; rw [duties_x, Finset.sum_singleton, amount_x]

theorem payload_bar (d : Bool) : (ringRd P).payload (barCell c) 0 d = slots d (into d c) := rfl
theorem payload_out (d : Bool) (s : Fin 6) (b : Bool) : (ringRd P).payload (xCell false d s c) 0 b = backPay P d s c := by
  show xPay P c (whose (xsem false d s)) = _; rw [whose_xsem]; rfl
theorem payload_in (d : Bool) (s : Fin 6) (b : Bool) :
    (ringRd P).payload (xCell true d s c) 0 b = landPay P d s (into (!d) c) c := by
  show xPay P c (whose (xsem true d s)) = _; rw [whose_xsem]; rfl

/-- The whole payload of the barrier's round. -/
theorem rest_bar : bigSep ((ringRd P).duties (barCell c) 0 \ ∅) (fun d => (ringRd P).payload (barCell c) 0 d)
    = iprop(slots (F := F) false (into false c) ∗ slots (F := F) true (into true c)) := by
  rw [Finset.sdiff_empty, duties_bar, bigSep_univ_eq_bigSepL [false, true] (by decide) (by decide), bigSepL_cons_cons, bigSepL_singleton]
  rfl
/-- The whole payload of a message cell's round. -/
theorem rest_x (r d : Bool) (s : Fin 6) :
    bigSep ((ringRd P).duties (xCell r d s c) 0 \ ∅) (fun b => (ringRd P).payload (xCell r d s c) 0 b)
      = (ringRd P).payload (xCell r d s c) 0 false := by
  rw [Finset.sdiff_empty, duties_x, bigSep_singleton]

end Tables

/-! ## What a device owes, and in which order it may wait -/

/-- The credits that the last `k` messages of device `c` will pay. -/
def due (c : Dev nD) : ℕ → CellTallies nD τ sig Unit
  | 0 => 0
  | k + 1 => due c k + tallyAt (xCell true (msgOf (11 - k)).1 (msgOf (11 - k)).2 (into (msgOf (11 - k)).1 c)) () N

/-- Owed after the first signal, and owed at the start: the messages and a barrier unit to each neighbour. -/
def owed₁ (c : Dev nD) : CellTallies nD τ sig Unit := due c 12 + tallyAt (barCell (into false c)) () 1
def owed₀ (c : Dev nD) : CellTallies nD τ sig Unit := owed₁ c + tallyAt (barCell (into true c)) () 1

/-- The one index of every cell of a device. -/
def L (g : GSem nD τ sig) : Finset Unit := if g.1.2 = .tc then {()} else ∅
/-- Barriers come first, then the incoming cells step by step; all other cells are below. -/
def lv (g : GSem nD τ sig) (_ : Unit) : ℕ := match g.2 with
  | .reg _ => 1
  | .dma q => if 18 ≤ q.val then 2 + q.val % 6 else 0

theorem L_of_ne (g : GSem nD τ sig) (h : g.1.2 ≠ .tc) : L g = ∅ := if_neg h
theorem L_tc (c : Dev nD) (sm : SemLoc sig) : L ((c : Thread nD τ), sm) = {()} := if_pos rfl
theorem lv_in (d : Bool) (s : Fin 6) (c : Dev nD) : lv (xCell true d s c) () = 2 + s.val := by
  show (if 18 ≤ (xsem true d s).val then 2 + (xsem true d s).val % 6 else 0) = _
  revert d s; decide
theorem lv_out (d : Bool) (s : Fin 6) (c : Dev nD) : lv (xCell false d s c) () = 0 := by
  show (if 18 ≤ (xsem false d s).val then 2 + (xsem false d s).val % 6 else 0) = _
  revert d s; decide

/-- A cell owed something by the last `k` messages is the incoming cell of one of them. -/
theorem due_pos {c : Dev nD} {g : GSem nD τ sig} {u : Unit} : ∀ {k : ℕ}, 0 < due c k g u →
    ∃ j < k, g = xCell true (msgOf (11 - j)).1 (msgOf (11 - j)).2 (into (msgOf (11 - j)).1 c)
  | 0, h => absurd h (by simp [due])
  | k + 1, h => by
    unfold due at h
    rw [Pi.add_apply, Finsupp.add_apply, tallyAt_apply] at h
    by_cases hg : g = xCell true (msgOf (11 - k)).1 (msgOf (11 - k)).2 (into (msgOf (11 - k)).1 c)
    · exact ⟨k, Nat.lt_succ_self k, hg⟩
    · rw [if_neg (fun h' => hg h'.1), Nat.add_zero] at h
      obtain ⟨j, hj, e⟩ := due_pos h
      exact ⟨j, Nat.lt_succ_of_lt hj, e⟩

/-- Owing the last `k` messages, a device may wait on any cell below all of them. -/
theorem mayWait_due (c : Dev nD) (sm : SemLoc sig) (k n : ℕ) (hsm : lv ((c : Thread nD τ), sm) () ≤ n)
    (hk : ∀ j < k, n < 2 + (11 - j) / 2 % 6) : (levAts L lv : sProp 𝕄) ⊢ MayWait (c : Thread nD τ) sm () (due c k) :=
  MayOwe.of_cut (L := L) (lev := lv) n (fun p hp => by rw [Finset.mem_singleton.mp hp, L_tc]; exact Finset.mem_singleton_self _)
    (fun g u hg => by obtain ⟨j, -, rfl⟩ := due_pos hg; exact Finset.mem_singleton_self _)
    (fun p hp => by rw [Finset.mem_singleton.mp hp]; exact hsm)
    (fun g u hg => by obtain ⟨j, hj, rfl⟩ := due_pos hg; rw [lv_in]; exact hk j hj)

/-- Owing everything, a device may wait on a cell of level 0. -/
theorem mayWait_start (c : Dev nD) (sm : SemLoc sig) (hsm : lv ((c : Thread nD τ), sm) () = 0) :
    (levAts L lv : sProp 𝕄) ⊢ MayWait (c : Thread nD τ) sm () (owed₀ c) := by
  have hpos {g : GSem nD τ sig} {u : Unit} (h : 0 < owed₀ c g u) : g ∈ Set.range (fun x : Dev nD => barCell x) ∨ 0 < due c 12 g u := by
    unfold owed₀ owed₁ at h
    rw [Pi.add_apply, Finsupp.add_apply, Pi.add_apply, Finsupp.add_apply, tallyAt_apply, tallyAt_apply] at h
    by_cases h1 : g = barCell (into true c)
    · exact .inl ⟨_, h1.symm⟩
    by_cases h2 : g = barCell (into false c)
    · exact .inl ⟨_, h2.symm⟩
    rw [if_neg (fun h' => h2 h'.1), if_neg (fun h' => h1 h'.1)] at h
    exact .inr (by simpa using h)
  refine MayOwe.of_cut (L := L) (lev := lv) 0 (fun p hp => by rw [Finset.mem_singleton.mp hp, L_tc]; exact Finset.mem_singleton_self _)
    (fun g u hg => ?_) (fun p hp => by rw [Finset.mem_singleton.mp hp]; exact hsm.le) (fun g u hg => ?_)
  · rcases hpos hg with ⟨x, rfl⟩ | h
    · exact Finset.mem_singleton_self _
    · obtain ⟨j, -, rfl⟩ := due_pos h; exact Finset.mem_singleton_self _
  · rcases hpos hg with ⟨x, rfl⟩ | h
    · exact Nat.one_pos
    · obtain ⟨j, -, rfl⟩ := due_pos h; rw [lv_in]; omega

end Cert.KernelIdeal.Ring

end
-- ==== Proof.BuffersKernelIdeal.lean ====
/-
# Cutting the buffers up and putting them together

The result buffer is its eight chunks, and the landing buffer its six slots.
-/
module

public import proofs.«01_k».proof.Proof.ScheduleKernelIdeal
public import Idealize.ShloMosaic.Lib.Ring

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Chunks of the result buffer -/

/-- The chunk that an element of the result lies in, and its place there. -/
def chunkOf (i : S512x1024.Idx) : Fin 8 := ⟨(i 1).val / 128, by have : (i 1).val < 1024 := (i 1).isLt; omega⟩
def placeOf (i : S512x1024.Idx) : S512x128.Idx := fun a => ⟨(i a).val - at128 (chunkOf i) a, by
  fin_cases a
  · have : (i 0).val < 512 := (i 0).isLt
    show (i 0).val - 0 < 512; omega
  · have : (i 1).val < 1024 := (i 1).isLt
    show (i 1).val - 128 * ((i 1).val / 128) < 128; omega⟩

/-- An element of chunk `b` lies in chunk `b`, at its own place. -/
theorem chunkOf_emb (b : Fin 8) (j : S512x128.Idx) : chunkOf ((chR b).emb j) = b := by
  refine Fin.ext ?_
  show ((chR b).emb j 1).val / 128 = b.val
  rw [Rect.emb_apply]
  have hj : (j 1).val < 128 := (j 1).isLt
  show (128 * b.val + 1 * (j 1).val) / 128 = b.val; omega
theorem placeOf_emb (b : Fin 8) (j : S512x128.Idx) : placeOf ((chR b).emb j) = j := by
  refine funext fun a => Fin.ext ?_
  show ((chR b).emb j a).val - at128 (chunkOf ((chR b).emb j)) a = (j a).val
  rw [chunkOf_emb, Rect.emb_apply]
  show at128 b a + 1 * (j a).val - at128 b a = (j a).val; omega
/-- Every element is the element at its place of its chunk. -/
theorem emb_placeOf (i : S512x1024.Idx) : (chR (chunkOf i)).emb (placeOf i) = i := by
  refine funext fun a => Fin.ext ?_
  rw [Rect.emb_apply]
  show at128 (chunkOf i) a + 1 * ((i a).val - at128 (chunkOf i) a) = (i a).val
  have : at128 (chunkOf i) a ≤ (i a).val := by
    fin_cases a
    · exact Nat.zero_le _
    · show 128 * ((i 1).val / 128) ≤ (i 1).val; omega
  omega

theorem mem_chR (b : Fin 8) (i : S512x1024.Idx) : i ∈ (chR b).set ↔ chunkOf i = b := by
  rw [← Rect.map_emb_univ, Finset.mem_map]
  constructor
  · rintro ⟨j, -, rfl⟩; exact chunkOf_emb b j
  · rintro rfl; exact ⟨placeOf i, Finset.mem_univ _, emb_placeOf i⟩
theorem chR_disjoint (b b' : Fin 8) (h : b ≠ b') : Disjoint (chR b).set (chR b').set :=
  Finset.disjoint_left.mpr fun i hi hi' => h (((mem_chR b i).mp hi).symm.trans ((mem_chR b' i).mp hi'))
theorem chR_cover : (Finset.univ : Finset (Fin 8)).biUnion (fun b => (chR b).set) = Finset.univ :=
  Finset.eq_univ_iff_forall.mpr fun i => Finset.mem_biUnion.mpr ⟨chunkOf i, Finset.mem_univ _, (mem_chR _ i).mpr rfl⟩

omit [FloatOps F] in
/-- The result buffer at `g` is its chunks, each holding its part of `g`. -/
theorem chunks_eq (c : Dev nD) (g : Vec F S512x1024 .f32) :
    (((c : Thread nD τ).loc cc0_stg5_0) ↦{fullShare} g : sProp 𝕄)
      = bigSep Finset.univ fun b : Fin 8 => holds (F := F) c (chM b) (part g b) := by
  have h := pointsTo_rects (Ix := Unit) (Name := ℕ) (U := UU) (Lvl := ℕ) (Val := Elt F) (c : Thread nD τ) oM fullShare chR
    (fun _ _ => rfl) chR_disjoint chR_cover g
  rw [View.set_whole] at h
  exact h

/-- Seen from device `c`: the chunks in the order in which they travel. -/
def order (c : Dev nD) : Bool × Fin 4 ≃ Fin 8 :=
  Equiv.ofBijective (fun p => blk p.1 p.2.val c) (by revert c; decide +kernel)

omit [FloatOps F] in
/-- The same, the chunks listed by direction and step. -/
theorem chunks_split (c : Dev nD) (g : Vec F S512x1024 .f32) :
    (((c : Thread nD τ).loc cc0_stg5_0) ↦{fullShare} g : sProp 𝕄)
      = iprop((holds (F := F) c (chM (blk false 0 c)) (part g (blk false 0 c)) ∗ holds (F := F) c (chM (blk false 1 c)) (part g (blk false 1 c))
            ∗ holds (F := F) c (chM (blk false 2 c)) (part g (blk false 2 c)) ∗ holds (F := F) c (chM (blk false 3 c)) (part g (blk false 3 c)))
          ∗ (holds (F := F) c (chM (blk true 0 c)) (part g (blk true 0 c)) ∗ holds (F := F) c (chM (blk true 1 c)) (part g (blk true 1 c))
            ∗ holds (F := F) c (chM (blk true 2 c)) (part g (blk true 2 c)) ∗ holds (F := F) c (chM (blk true 3 c)) (part g (blk true 3 c)))) := by
  rw [chunks_eq, BI.bigSep_univ_equiv (order c), BI.bigSep_univ_prod,
    bigSep_univ_eq_bigSepL [false, true] (by decide) (by decide), bigSepL_cons_cons, bigSepL_singleton]
  congr 1 <;>
  · rw [bigSep_univ_eq_bigSepL [(0 : Fin 4), 1, 2, 3] (by decide) (by decide)]
    rfl

/-! ## The result -/

/-- How many all-gather steps it takes until device `c` has chunk `b`. -/
def stepOf (c : Dev nD) (b : Fin 8) : ℕ := if b.val < 4 then (c.val + 1 + 3 * b.val) % 4 else (b.val + 1 + 3 * c.val) % 4
theorem stepOf_blk (c : Dev nD) : ∀ (d : Bool) (k : Fin 4), stepOf c (blk d (3 + k.val) c) = k.val := by revert c; decide +kernel
theorem blk_lt (c : Dev nD) : ∀ (d : Bool) (k : Fin 4), decide (4 ≤ (blk d (3 + k.val) c).val) = d := by revert c; decide +kernel

/-- What device `c` ends up with: in each chunk the last contents that it sent or got of it. -/
def resultOf (P : Dev nD → Vec F S512x1024 .f32) (c : Dev nD) : Vec F S512x1024 .f32 := fun i =>
  val P (decide (4 ≤ (chunkOf i).val)) (3 + stepOf c (chunkOf i)) c (placeOf i)

theorem part_resultOf (P : Dev nD → Vec F S512x1024 .f32) (c : Dev nD) (d : Bool) (k : Fin 4) :
    part (resultOf P c) (blk d (3 + k.val) c) = val P d (3 + k.val) c := by
  funext j
  unfold part resultOf
  rw [chunkOf_emb, placeOf_emb, stepOf_blk, blk_lt]

/-- The chunks at their last contents are the result buffer at the result. -/
theorem chunks_join (P : Dev nD → Vec F S512x1024 .f32) (c : Dev nD) :
    iprop((holds c (chM (blk false 4 c)) (val P false 4 c) ∗ holds c (chM (blk false 5 c)) (val P false 5 c)
          ∗ holds c (chM (blk false 6 c)) (val P false 6 c) ∗ holds c (chM (blk false 3 c)) (val P false 3 c))
        ∗ (holds c (chM (blk true 4 c)) (val P true 4 c) ∗ holds c (chM (blk true 5 c)) (val P true 5 c)
          ∗ holds c (chM (blk true 6 c)) (val P true 6 c) ∗ holds c (chM (blk true 3 c)) (val P true 3 c)))
      = (((c : Thread nD τ).loc cc0_stg5_0) ↦{fullShare} resultOf P c : sProp 𝕄) := by
  rw [chunks_split]
  have h (d : Bool) (s : ℕ) (k : Fin 4) (hs : s + 4 = 3 + k.val) : part (resultOf P c) (blk d s c) = val P d (s + 4) c := by
    rw [← blk_add_four, hs]; exact part_resultOf P c d k
  rw [h false 0 1 rfl, h false 1 2 rfl, h false 2 3 rfl, show part (resultOf P c) (blk false 3 c) = val P false 3 c from part_resultOf P c false 0,
    h true 0 1 rfl, h true 1 2 rfl, h true 2 3 rfl, show part (resultOf P c) (blk true 3 c) = val P true 3 c from part_resultOf P c true 0,
    blk_add_four false 0, blk_add_four false 1, blk_add_four false 2, blk_add_four true 0, blk_add_four true 1, blk_add_four true 2]

/-! ## Slots of the landing buffer -/

/-- The slot that an element of the landing buffer lies in. -/
def slotOf (i : S2x3x512x128.Idx) : Bool × Fin 3 := (decide ((i 0).val = 1), i 1)
theorem mem_slR (p : Bool × Fin 3) (i : S2x3x512x128.Idx) : i ∈ (slR p.1 p.2).set ↔ slotOf i = p := by
  obtain ⟨d, s⟩ := p
  have h0 : (i 0).val < 2 := (i 0).isLt
  have h1 : (i 1).val < 3 := (i 1).isLt
  have h2 : (i 2).val < 512 := (i 2).isLt
  have h3 : (i 3).val < 128 := (i 3).isLt
  rw [Rect.mem_set_unit]
  constructor
  · intro h
    have a0 : d.toNat ≤ (i 0).val ∧ (i 0).val < d.toNat + 1 := h 0
    have a1 : s.val ≤ (i 1).val ∧ (i 1).val < s.val + 1 := h 1
    refine Prod.ext ?_ (Fin.ext (by show (i 1).val = s.val; omega))
    show decide ((i 0).val = 1) = d
    rcases d with - | -
    · exact decide_eq_false (by simp at a0; omega)
    · exact decide_eq_true (by simp at a0; omega)
  · intro h
    have e0 : decide ((i 0).val = 1) = d := congrArg Prod.fst h
    have e1 : i 1 = s := congrArg Prod.snd h
    have b0 : d.toNat = (i 0).val := by
      cases d
      · have := of_decide_eq_false e0; show 0 = (i 0).val; omega
      · exact (of_decide_eq_true e0).symm
    intro a
    fin_cases a
    · show d.toNat ≤ (i 0).val ∧ (i 0).val < d.toNat + 1; omega
    · show s.val ≤ (i 1).val ∧ (i 1).val < s.val + 1; rw [e1]; omega
    · show 0 ≤ (i 2).val ∧ (i 2).val < 0 + 512; omega
    · show 0 ≤ (i 3).val ∧ (i 3).val < 0 + 128; omega

/-- The elements of a slot, as the buffer's. -/
abbrev slS (p : Bool × Fin 3) : Finset (S2x3x512x128.Idx) := (slR p.1 p.2).set
theorem slS_disjoint (p p' : Bool × Fin 3) (h : p ≠ p') : Disjoint (slS p) (slS p') :=
  Finset.disjoint_left.mpr fun i hi hi' => h (((mem_slR p i).mp hi).symm.trans ((mem_slR p' i).mp hi'))
theorem slS_cover : (Finset.univ : Finset (Bool × Fin 3)).biUnion slS = Finset.univ :=
  Finset.eq_univ_iff_forall.mpr fun i => Finset.mem_biUnion.mpr ⟨slotOf i, Finset.mem_univ _, (mem_slR _ i).mpr rfl⟩

theorem slM_set (d : Bool) (s : Fin 3) : (slM d s).view.set = slS (d, s) := by
  show ((gM.view.slice (slR d s)).reshape S512x128 _).set = _
  rw [View.set_reshape, View.set_slice_whole]

omit [FloatOps F] in
/-- Room in a slot is its elements at some contents. -/
theorem room_slot (c : Dev nD) (d : Bool) (s : Fin 3) :
    room (F := F) c (slM d s) = (iprop(∃ f, ((c : Thread nD τ).loc cc0_scratch1) ↦[slS (d, s)]{fullShare} f) : sProp 𝕄) := by
  have h₁ : room (F := F) c (slM d s) ⊢ (iprop(∃ f, ((c : Thread nD τ).loc cc0_scratch1) ↦[slS (d, s)]{fullShare} f) : sProp 𝕄) := by
    unfold room holds owns
    rw [slM_set]
    iintro ⟨%X, %f, -, H⟩
    iexists f
    iexact H
  have h₂ : (iprop(∃ f, ((c : Thread nD τ).loc cc0_scratch1) ↦[slS (d, s)]{fullShare} f) : sProp 𝕄) ⊢ room (F := F) c (slM d s) := by
    unfold room holds owns
    rw [slM_set]
    iintro ⟨%f, H⟩
    iexists ((slM d s).view.read (Elt F) f)
    iexists f
    isplitr; · ipureintro; rfl
    iexact H
  exact BI.equiv_iff.mp ⟨h₁, h₂⟩

omit [FloatOps F] in
/-- The six slots, one by one. -/
theorem slots_eq (c : Dev nD) : (iprop(slots (F := F) false c ∗ slots (F := F) true c) : sProp 𝕄)
    = bigSep Finset.univ fun p : Bool × Fin 3 => iprop(∃ f, ((c : Thread nD τ).loc cc0_scratch1) ↦[slS p]{fullShare} f) := by
  rw [BI.bigSep_univ_prod, bigSep_univ_eq_bigSepL [false, true] (by decide) (by decide), bigSepL_cons_cons, bigSepL_singleton]
  unfold slots
  simp only [room_slot]
  congr 1 <;>
  · rw [bigSep_univ_eq_bigSepL [(0 : Fin 3), 1, 2] (by decide) (by decide)]
    rfl

omit [FloatOps F] in
/-- The landing buffer cut into its slots, -/
theorem slots_split (c : Dev nD) :
    (iprop(∃ f, ((c : Thread nD τ).loc cc0_scratch1) ↦{fullShare} f) : sProp 𝕄) ⊢ iprop(slots (F := F) false c ∗ slots (F := F) true c) := by
  rw [slots_eq]
  have h (f : Buf (Elt F) ((c : Thread nD τ).loc cc0_scratch1)) : (((c : Thread nD τ).loc cc0_scratch1) ↦{fullShare} f : sProp 𝕄)
      ⊢ bigSep Finset.univ fun p : Bool × Fin 3 => iprop(∃ f, ((c : Thread nD τ).loc cc0_scratch1) ↦[slS p]{fullShare} f) := by
    rw [Idealize.ShloMosaic.Ring.pointsTo_blocks (ℓ := (c : Thread nD τ).loc cc0_scratch1) slS slS_disjoint slS_cover f]
    have hp (p : Bool × Fin 3) : (((c : Thread nD τ).loc cc0_scratch1) ↦[slS p]{fullShare} f : sProp 𝕄)
        ⊢ iprop(∃ f, ((c : Thread nD τ).loc cc0_scratch1) ↦[slS p]{fullShare} f) := by
      iintro H; iexists f; iexact H
    exact bigSep_mono fun p _ => hp p
  iintro ⟨%f, H⟩
  iapply (h f)
  iexact H

/-- and put together again. -/
theorem slots_join (c : Dev nD) :
    iprop(slots (F := F) false c ∗ slots (F := F) true c) ⊢ (iprop(∃ f, ((c : Thread nD τ).loc cc0_scratch1) ↦{fullShare} f) : sProp 𝕄) := by
  rw [slots_eq]
  exact Idealize.ShloMosaic.Ring.pointsTo_blocks_join_exists (ℓ := (c : Thread nD τ).loc cc0_scratch1) slS slS_disjoint slS_cover (fun _ => FloatOps.ofBits .f32 0)

end Cert.KernelIdeal.Ring

end
-- ==== Proof.StepsKernelIdeal.lean ====
/-
# The operations of the ring, one rule for each

A device's run consists of a handshake, transfers out of its result buffer, waits, and additions of a landed block to a
chunk. This module gives one rule for each of these, at any device, direction and step. The programs' own memrefs,
semaphores and offsets are variables with an equation saying which chunk, slot or semaphore they are.
-/
module

public import proofs.«01_k».proof.Proof.BuffersKernelIdeal

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop variants are needed. -/
abbrev 𝒱₀ : Variants := Variants.none

variable (P : Dev nD → Vec F S512x1024 .f32)

/-! ## What every device knows -/

/-- Every cell's invariant, and that every cell has reached its round. -/
def known (K : Dev nD × Cell → ℕ) : sProp 𝕄 :=
  iprop((bigSep Finset.univ fun p : Dev nD × Cell => cellInv ER (ringRd P) (K p) (cellAt p.1 p.2))
    ∗ bigSep Finset.univ fun p : Dev nD × Cell => reached ER (cellAt p.1 p.2) 0)

instance known_persistent (K : Dev nD × Cell → ℕ) : BI.Persistent (known P K) := by unfold known; infer_instance

/-- The invariant of one cell. -/
theorem known_inv (K : Dev nD × Cell → ℕ) (c : Dev nD) (k : Cell) : known P K ⊢ cellInv ER (ringRd P) (K (c, k)) (cellAt c k) := by
  have h : (bigSep Finset.univ fun p : Dev nD × Cell => (cellInv ER (ringRd P) (K p) (cellAt p.1 p.2) : sProp 𝕄))
      ⊢ cellInv ER (ringRd P) (K (c, k)) (cellAt c k) := bigSep_elim (Finset.mem_univ (c, k))
  unfold known
  iintro ⟨H, -⟩
  iapply h
  iexact H

/-- One cell has reached its round. -/
theorem known_reached (K : Dev nD × Cell → ℕ) (c : Dev nD) (k : Cell) : known P K ⊢ reached ER (cellAt c k) 0 := by
  have h : (bigSep Finset.univ fun p : Dev nD × Cell => (reached ER (cellAt p.1 p.2) 0 : sProp 𝕄))
      ⊢ reached ER (cellAt c k) 0 := bigSep_elim (Finset.mem_univ (c, k))
  unfold known
  iintro ⟨-, H⟩
  iapply h
  iexact H

variable {P}
variable (K : Dev nD × Cell → ℕ) (c : Dev nD)

/-! ## The handshake -/

/-- A signal to the neighbour in direction `!d` hands it this device's landing slots of direction `d`. -/
theorem wp_hello (d : Bool) {n : Dev nD} (hn : n = into (!d) c) {q : Sem sig} (hq : q = barS)
    (O : CellTallies nD τ sig Unit) {O₀ : CellTallies nD τ sig Unit} (hO : O₀ = O + tallyAt (barCell (into (!d) c)) () 1)
    (W : Waits sig Unit)
    {α : Type} {Q : α → sProp 𝕄} {k : PUnit → Prog (TpuEff nD τ sig (Elt F) Λ₀ .tc) α} :
    iprop(known P K ∗ owes (c : Thread nD τ) O₀ W ∗ dutyTok ER (barCell (into (!d) c)) 0 d ∗ slots d c)
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) q 1) k) Q) := by
  subst hn hq
  iintro ⟨#HK, HO, Htok, Hs⟩
  ihave #HI := (known_inv P K (into (!d) c) none) $$ HK
  ihave #Hr := (known_reached P K (into (!d) c) none) $$ HK
  iapply (Rounds.wp_signal 𝒱₀ ER (ringRd P) (c : Thread nD τ) none (dst := ((into (!d) c : Dev nD) : Thread nD τ)) (κ := K (into (!d) c, none)) (d := d)
    (by rw [duties_bar P]; exact Finset.mem_univ _) (amount_bar P _ d) () O hO)
  isplitr; · iexact HI
  isplitl [HO]; · iexact HO
  isplitl [Htok]; · iexact Htok
  isplitl [Hs]
  · rw [payload_bar, into_into_not]; iexact Hs
  iexact Hr

/-- The wait for both neighbours' signals brings their landing slots: what this device's messages are to fill. -/
theorem wp_greeted {q : Sem sig} (hq : q = barS) (W : Waits sig Unit)
    {α : Type} {Q : α → sProp 𝕄} {k : PUnit → Prog (TpuEff nD τ sig (Elt F) Λ₀ .tc) α} :
    iprop(known P K ∗ levAts L lv ∗ cred (tallyAt (barCell c) () 2) ∗ owes (c : Thread nD τ) (due c 12) W ∗ atPos ER (barCell c) 0 ∅ 0)
      ⊢ iprop(((owes (c : Thread nD τ) (due c 12) (insert (SemLoc.reg barS, ()) W) ∗ atPos ER (barCell c) (0 + 1) ∅ 0
            ∗ slots (F := F) false (into false c) ∗ slots (F := F) true (into true c))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait q 2) k) Q) := by
  subst hq
  iintro ⟨#HK, #Hlev, Hc, HO, Hat⟩ Hk
  ihave #HI := (known_inv P K c none) $$ HK
  iapply (Rounds.wp_wait_rest_token 𝒱₀ ER (ringRd P) (c : Thread nD τ) none (κ := K (c, none))
      (wpE_semWait_eq 𝒱₀ (c : Thread nD τ) none Set.univ) (Set.mem_univ _) () (O := due c 12) (W := W) (R := 0) (m := 0) (T := ∅)
      (by rw [expect_bar P])) $$ [Hc HO Hat]
  · isplitr; · iexact HI
    isplitl [Hc]; · iexact Hc
    isplitl [HO]; · iexact HO
    isplitr
    · iapply (mayWait_due c (SemLoc.reg barS) 12 1 le_rfl (by decide))
      iexact Hlev
    iexact Hat
  iintro ⟨HO, Hat, -, Hpay⟩
  ihave Hp := (Entails.of_eq (rest_bar P c)) $$ Hpay
  iapply Hk
  isplitl [HO]; · iexact HO
  isplitl [Hat]; · iexact Hat
  iexact Hp

/-! ## Messages -/

omit [FloatOps F] in
/-- A memref that has been written holds what was written. -/
theorem holds_written (n : Dev nD) (M : Memref sig .tc .vmem S512x128 .f32) (X : Vec F S512x128 .f32) (f : Buf (Elt F) (M.view.loc (n : Thread nD τ))) :
    (M.view.loc (n : Thread nD τ) ↦[M.view.set]{fullShare} M.view.write (Elt F) f X Finset.univ : sProp 𝕄) ⊢ holds n M X := by
  unfold holds owns
  iintro H
  iexists (M.view.write (Elt F) f X Finset.univ)
  isplitr; · ipureintro; exact View.read_write_univ _ _
  iexact H

/-- Starting message `(d, s)`, the `11 - k`-th: the chunk that it carries, room where it lands, and what it hands over
    besides go; a credit for waiting until it is out comes back. -/
theorem wp_start (k : ℕ) {d : Bool} {s : Fin 6} (hk : msgOf (11 - k) = (d, s)) {n : Dev nD} (hn : n = into d c)
    {src dst : Memref sig .tc .vmem S512x128 .f32} (hs : src = chM (blk d s.val c)) (hd : dst = landM d s c)
    {q q' : DmaSem sig} (hq : q = xsem false d s) (hq' : q' = xsem true d s)
    {hsc : dst.view.ref.isScScratch = false} {hsrc : src.view.WordExact} {hdst : dst.view.WordExact}
    {hsem : DmaTarget.Typed .vmem (.dma q') (.remote (n : Thread nD τ) dst (.dma q) hsc)}
    (W : Waits sig Unit)
    {α : Type} {Q : α → sProp 𝕄} {p : PUnit → Prog (TpuEff nD τ sig (Elt F) Λ₀ .tc) α} :
    iprop(known P K ∗ holds c (chM (blk d s.val c)) (val P d s.val c) ∗ room (F := F) (into d c) (landM d s c) ∗ extra (F := F) d c s.val
        ∗ owes (c : Thread nD τ) (due c (k + 1)) W
        ∗ dutyTok ER (xCell false d s c) 0 false ∗ dutyTok ER (xCell true d s (into d c)) 0 false)
      ⊢ iprop(((cred (tallyAt (xCell false d s c) () N) ∗ owes (c : Thread nD τ) (due c k) W)
          -∗ wp frame (wpE (defs₀ (F := F)) 𝒱₀ (c : Thread nD τ) none) Set.univ (p ⟨⟩) Q)
        -∗ wp frame (wpE (defs₀ (F := F)) 𝒱₀ (c : Thread nD τ) none) Set.univ
          (.op (.enqueueDma src (.remote (n : Thread nD τ) dst (.dma q) hsc) (.dma q') hsrc hdst hsem) p) Q) := by
  subst hn hs hd hq hq'
  unfold room holds owns
  iintro ⟨#HK, ⟨%fs, %es, Hs⟩, ⟨%X, %fd, -, Hd⟩, He, HO, Ht, Ht'⟩
  ihave #HI := (known_inv P K c (some (false, d, s))) $$ HK
  ihave #HI' := (known_inv P K (into d c) (some (true, d, s))) $$ HK
  ihave #Hr := (known_reached P K c (some (false, d, s))) $$ HK
  ihave #Hr' := (known_reached P K (into d c) (some (true, d, s))) $$ HK
  have hdue : due c (k + 1) = due c k + tallyAt (xCell true d s (into d c)) () N := by
    show due c k + tallyAt (xCell true (msgOf (11 - k)).1 (msgOf (11 - k)).2 (into (msgOf (11 - k)).1 c)) () N = _
    rw [hk]
  iapply (Rounds.wp_send_pointsTo_with 𝒱₀ ER (ringRd P) (c : Thread nD τ) none (c' := ((into d c : Dev nD) : Thread nD τ)) (src := chM (blk d s.val c)) (dst := landM d s c)
    (sS := SemLoc.dma (xsem false d s)) (sem := SemLoc.dma (xsem true d s)) (q := fullShare)
    (κ₁ := K (c, some (false, d, s))) (κ₂ := K (into d c, some (true, d, s)))
    (r₁ := 0) (r₂ := 0) (d₁ := false) (d₂ := false) (fs := fs) (fd := fd) (F := extra d c s.val)
    (by rw [duties_x P]; exact Finset.mem_singleton_self _) (by rw [duties_x P]; exact Finset.mem_singleton_self _)
    () () N (credit_land d s c) (amount_x P c false d s false) (amount_x P (into d c) true d s false)
    (due c k) hdue ?_ ?_)
  · rw [payload_out]
    unfold backPay holds owns
    iintro H
    iexists fs
    isplitr; · ipureintro; exact es
    iexact H
  · rw [payload_in, into_not_into]
    unfold landPay
    iintro ⟨H, He⟩
    isplitl [H]
    · iapply (holds_written (into d c) (landM d s c) _ fd)
      rw [← es]
      iexact H
    iexact He
  isplitr; · iexact HI
  isplitr; · iexact HI'
  isplitl [Hs]; · iexact Hs
  isplitl [Hd He]
  · isplitl [Hd]; · iexact Hd
    iexact He
  isplitl [HO]; · iexact HO
  isplitl [Ht]; · iexact Ht
  isplitr; · iexact Hr
  isplitl [Ht']; · iexact Ht'
  iexact Hr'

/-- Waiting on a message's outgoing or incoming cell, with the last `k` messages still owed: the cell's payload comes. -/
theorem wp_await (r d : Bool) (s : Fin 6) (k : ℕ) (hk : r = true → ∀ j < k, 2 + s.val < 2 + (11 - j) / 2 % 6)
    {src dst : Memref sig .tc .vmem S512x128 .f32} (hdc : dst.view.dmaCredit = N) {q : DmaSem sig} (hq : q = xsem r d s)
    {hsrc : src.view.WordExact} {hdst : dst.view.WordExact} (W : Waits sig Unit)
    {α : Type} {Q : α → sProp 𝕄} {p : PUnit → Prog (TpuEff nD τ sig (Elt F) Λ₀ .tc) α} :
    iprop(known P K ∗ levAts L lv ∗ cred (tallyAt (xCell r d s c) () N) ∗ owes (c : Thread nD τ) (due c k) W ∗ atPos ER (xCell r d s c) 0 ∅ 0)
      ⊢ iprop(((owes (c : Thread nD τ) (due c k) (insert (SemLoc.dma (xsem r d s), ()) W) ∗ atPos ER (xCell r d s c) (0 + 1) ∅ 0
            ∗ (ringRd P).payload (xCell r d s c) 0 false)
          -∗ wp frame (wpE (defs₀ (F := F)) 𝒱₀ (c : Thread nD τ) none) Set.univ (p ⟨⟩) Q)
        -∗ wp frame (wpE (defs₀ (F := F)) 𝒱₀ (c : Thread nD τ) none) Set.univ (.op (.waitDma2 q src dst hsrc hdst) p) Q) := by
  subst hq
  iintro ⟨#HK, #Hlev, Hc, HO, Hat⟩ Hk
  ihave #HI := (known_inv P K c (some (r, d, s))) $$ HK
  rw [← hdc]
  iapply (Rounds.wp_wait_rest_token 𝒱₀ ER (ringRd P) (c : Thread nD τ) none (κ := K (c, some (r, d, s)))
      (wpE_waitDma2_eq 𝒱₀ (c : Thread nD τ) none Set.univ) (Set.mem_univ _) () (O := due c k) (W := W) (R := 0) (m := 0) (T := ∅)
      (by rw [Nat.zero_add, hdc]; exact (expect_x P c r d s).symm)) $$ [Hc HO Hat]
  · isplitr; · iexact HI
    isplitl [Hc]; · iexact Hc
    isplitl [HO]; · iexact HO
    isplitr
    · cases r
      · iapply (mayWait_due c (SemLoc.dma (xsem false d s)) k 0 (lv_out d s c).le (by intro j _; omega))
        iexact Hlev
      · iapply (mayWait_due c (SemLoc.dma (xsem true d s)) k (2 + s.val) (lv_in d s c).le (hk rfl))
        iexact Hlev
    iexact Hat
  iintro ⟨HO, Hat, -, Hpay⟩
  ihave Hp := (Entails.of_eq (rest_x P c r d s)) $$ Hpay
  iapply Hk
  isplitl [HO]; · iexact HO
  isplitl [Hat]; · iexact Hat
  iexact Hp

/-! ## Adding a landed block to a chunk -/

/-- A load of a chunk. -/
theorem wp_load_chunk (b : Fin 8) (X : Vec F S512x128 .f32) {o : Fin 2 → ℕ} (ho : o = at128 b) {inb : ∀ a, o a + S512x128.size a ≤ S512x1024.size a}
    {hl}
    {α : Type} {Q : α → sProp 𝕄} {p : Vec F S512x128 .f32 → Prog (TpuEff nD τ sig (Elt F) Λ₀ .tc) α} :
    holds c (chM b) X
      ⊢ iprop((holds c (chM b) X -∗ wp frame (wpE (defs₀ (F := F)) 𝒱₀ (c : Thread nD τ) none) Set.univ (p X) Q)
        -∗ wp frame (wpE (defs₀ (F := F)) 𝒱₀ (c : Thread nD τ) none) Set.univ
          (.op (.load oM (Rect.unit (s := S512x1024) o S512x128.size inb).toLoadRect hl) p) Q) := by
  subst ho
  unfold holds owns
  iintro ⟨%f, %e, H⟩ Hk
  subst e
  iapply (wp_load_rect 𝒱₀ (c : Thread nD τ) none Set.univ (m := oM) (r := chR b) (Finset.Subset.refl _)) $$ H
  iintro H
  iapply Hk
  iexists f
  isplitr; · ipureintro; rfl
  iexact H

/-- A store into a chunk. -/
theorem wp_store_chunk (b : Fin 8) (X Y : Vec F S512x128 .f32) {o : Fin 2 → ℕ} (ho : o = at128 b) {inb : ∀ a, o a + S512x128.size a ≤ S512x1024.size a}
    {hx hm}
    {α : Type} {Q : α → sProp 𝕄} {p : PUnit → Prog (TpuEff nD τ sig (Elt F) Λ₀ .tc) α} :
    holds c (chM b) X
      ⊢ iprop((holds c (chM b) Y -∗ wp frame (wpE (defs₀ (F := F)) 𝒱₀ (c : Thread nD τ) none) Set.univ (p ⟨⟩) Q)
        -∗ wp frame (wpE (defs₀ (F := F)) 𝒱₀ (c : Thread nD τ) none) Set.univ
          (.op (.store oM (Rect.unit (s := S512x1024) o S512x128.size inb) Y Finset.univ hx hm) p) Q) := by
  subst ho
  unfold holds owns
  iintro ⟨%f, -, H⟩ Hk
  iapply (wp_store 𝒱₀ (c : Thread nD τ) none Set.univ (m := oM) (r := chR b) (Mk := Finset.univ) (w := Y)
    (by rw [View.setOn_univ])) $$ H
  iintro H
  iapply Hk
  iexists ((oM.access (chR b)).write (Elt F) f Y Finset.univ)
  isplitr; · ipureintro; exact View.read_write_univ _ _
  iexact H

/-- A load of a landing slot: what is read is the block held there, as a 1 × 1 × 512 × 128 array. -/
theorem wp_load_slot (d : Bool) (s : Fin 3) (X : Vec F S512x128 .f32) {o : Fin 4 → ℕ} (ho : o = slotAt d s)
    {inb : ∀ a, o a + S1x1x512x128.size a ≤ S2x3x512x128.size a} {hl}
    {α : Type} {Q : α → sProp 𝕄} {p : Vec F S1x1x512x128 .f32 → Prog (TpuEff nD τ sig (Elt F) Λ₀ .tc) α} :
    holds c (slM d s) X
      ⊢ iprop((∀ Y : Vec F S1x1x512x128 .f32, ⌜shapeCast S512x128 Y (by decide) = X⌝ -∗ holds c (slM d s) X
          -∗ wp frame (wpE (defs₀ (F := F)) 𝒱₀ (c : Thread nD τ) none) Set.univ (p Y) Q)
        -∗ wp frame (wpE (defs₀ (F := F)) 𝒱₀ (c : Thread nD τ) none) Set.univ
          (.op (.load gM (Rect.unit (s := S2x3x512x128) o S1x1x512x128.size inb).toLoadRect hl) p) Q) := by
  subst ho
  unfold holds owns
  iintro ⟨%f, %e, H⟩ Hk
  subst e
  iapply (wp_load_rect 𝒱₀ (c : Thread nD τ) none Set.univ (m := gM) (r := slR d s)
    (by rw [show (slM d s).view.set = (gM.access (slR d s)).set from View.set_reshape _ _])) $$ H
  iintro H
  iapply Hk $$ %_ %?_ [H]
  · rfl
  · iexists f
    isplitr; · ipureintro; rfl
    iexact H

/-- The addition of step `s`: the chunk to be sent next gains what has landed. -/
theorem wp_add {P : Dev nD → Vec F S512x1024 .f32} (d : Bool) (s : Fin 3) {o : Fin 2 → ℕ} (ho : o = at128 (blk d (s.val + 1) c)) {o' : Fin 4 → ℕ} (ho' : o' = slotAt d s)
    {i₁ i₂ i₃ : ∀ a, o a + S512x128.size a ≤ S512x1024.size a} {i' : ∀ a, o' a + S1x1x512x128.size a ≤ S2x3x512x128.size a}
    {h₁ h₂ h₃ hx hm} {pay : Vec F S512x128 .f32 → Vec F S1x1x512x128 .f32 → Vec F S512x128 .f32}
    (hpay : ∀ v w, pay v w = addf v (shapeCast S512x128 w (by decide)))
    {α : Type} {Q : α → sProp 𝕄} {p : PUnit → Prog (TpuEff nD τ sig (Elt F) Λ₀ .tc) α} :
    iprop(holds c (chM (blk d (s.val + 1) c)) (part (P c) (blk d (s.val + 1) c)) ∗ holds c (slM d s) (val P d s.val (into (!d) c)))
      ⊢ iprop((holds c (chM (blk d (s.val + 1) c)) (val P d (s.val + 1) c) ∗ room (F := F) c (slM d s)
          -∗ wp frame (wpE (defs₀ (F := F)) 𝒱₀ (c : Thread nD τ) none) Set.univ (p ⟨⟩) Q)
        -∗ wp frame (wpE (defs₀ (F := F)) 𝒱₀ (c : Thread nD τ) none) Set.univ
          (.op (.load oM (Rect.unit (s := S512x1024) o S512x128.size i₁).toLoadRect h₁) fun v =>
            .op (.load gM (Rect.unit (s := S2x3x512x128) o' S1x1x512x128.size i').toLoadRect h₂) fun w =>
            .op (.load oM (Rect.unit (s := S512x1024) o S512x128.size i₂).toLoadRect h₃) fun _ =>
            .op (.store oM (Rect.unit (s := S512x1024) o S512x128.size i₃) (pay v w) Finset.univ hx hm) p) Q) := by
  iintro ⟨Hc, Hs⟩ Hk
  iapply (wp_load_chunk c (blk d (s.val + 1) c) _ ho) $$ Hc
  iintro Hc
  iapply (wp_load_slot c d s _ ho') $$ Hs
  iintro %Y %hY Hs
  iapply (wp_load_chunk c (blk d (s.val + 1) c) _ ho) $$ Hc
  iintro Hc
  iapply (wp_store_chunk c (blk d (s.val + 1) c) _ _ ho) $$ Hc
  iintro Hc
  iapply Hk
  isplitl [Hc]
  · rw [hpay, hY, ← val_add P d s.val s.isLt c]
    iexact Hc
  · iexists _
    iexact Hs

end Cert.KernelIdeal.Ring

end
-- ==== Proof.ExchangeKernelIdeal.lean ====
/-
# One step of the ring

In every step a device starts its two messages, one in each direction, waits until each of them is out, and waits for its
neighbours' messages of the same step. This module runs that sequence at any step, and says how what arrives at one step is
what is sent at the next.
-/
module

public import proofs.«01_k».proof.Proof.StepsKernelIdeal

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S512x1024 .f32)

/-- Device `c` still owes its last `k` messages. -/
def owing (c : Dev nD) (k : ℕ) : sProp 𝕄 := iprop(∃ W : Waits sig Unit, owes (c : Thread nD τ) (due c k) W)

/-- What device `c` needs of the protocol's tokens for message `(d, s)`: the duties that its own message pays, its places at
    its two cells, and the credit for the message that it is to receive. -/
def ready (d : Bool) (s : Fin 6) (c : Dev nD) : sProp 𝕄 :=
  iprop(dutyTok ER (xCell false d s c) 0 false ∗ dutyTok ER (xCell true d s (into d c)) 0 false
    ∗ atPos ER (xCell false d s c) 0 ∅ 0 ∗ atPos ER (xCell true d s c) 0 ∅ 0 ∗ cred (tallyAt (xCell true d s c) () N))

/-- What is left of them: both cells past their round. -/
def over (d : Bool) (s : Fin 6) (c : Dev nD) : sProp 𝕄 :=
  iprop(atPos ER (xCell false d s c) (0 + 1) ∅ 0 ∗ atPos ER (xCell true d s c) (0 + 1) ∅ 0)

/-- The memory that message `(d, s)` of device `c` takes. -/
def outgoing (d : Bool) (s : Fin 6) (c : Dev nD) : sProp 𝕄 :=
  iprop(holds c (chM (blk d s.val c)) (val P d s.val c) ∗ room (F := F) (into d c) (landM d s c) ∗ extra (F := F) d c s.val)

/-- The memory in hand when both ends of step `s` in direction `d` are done: the chunk sent, and what has arrived. -/
def arrived (d : Bool) (s : Fin 6) (c : Dev nD) : sProp 𝕄 :=
  iprop(holds c (chM (blk d s.val c)) (val P d s.val c) ∗ holds c (landM d s (into (!d) c)) (val P d s.val (into (!d) c))
    ∗ extra (F := F) d (into (!d) c) s.val)

variable {P}

theorem msgOf_false : ∀ s : Fin 6, msgOf (11 - (10 - 2 * s.val + 1)) = (false, s) := by decide
theorem msgOf_true : ∀ s : Fin 6, msgOf (11 - (10 - 2 * s.val)) = (true, s) := by decide

set_option maxHeartbeats 1000000 in
/-- Step `s`: both messages are started, and both ends of both directions are waited for. -/
theorem wp_exchange (K : Dev nD × Cell → ℕ) (c : Dev nD) (s : Fin 6) (k : ℕ) (hk : k = 10 - 2 * s.val)
    {n₀ n₁ : Dev nD} (hn₀ : n₀ = into false c) (hn₁ : n₁ = into true c)
    {src₀ dst₀ src₁ dst₁ : Memref sig .tc .vmem S512x128 .f32}
    (hs₀ : src₀ = chM (blk false s.val c)) (hd₀ : dst₀ = landM false s c) (hs₁ : src₁ = chM (blk true s.val c)) (hd₁ : dst₁ = landM true s c)
    {q₀ r₀ q₁ r₁ : DmaSem sig} (hq₀ : q₀ = xsem false false s) (hr₀ : r₀ = xsem true false s) (hq₁ : q₁ = xsem false true s) (hr₁ : r₁ = xsem true true s)
    {c₀ : dst₀.view.ref.isScScratch = false} {c₁ : dst₁.view.ref.isScScratch = false}
    {a₀ a₀' a₀'' : src₀.view.WordExact} {b₀ b₀' b₀'' : dst₀.view.WordExact} {a₁ a₁' a₁'' : src₁.view.WordExact} {b₁ b₁' b₁'' : dst₁.view.WordExact}
    {t₀ : DmaTarget.Typed .vmem (.dma r₀) (.remote (n₀ : Thread nD τ) dst₀ (.dma q₀) c₀)}
    {t₁ : DmaTarget.Typed .vmem (.dma r₁) (.remote (n₁ : Thread nD τ) dst₁ (.dma q₁) c₁)}
    {α : Type} {Q : α → sProp 𝕄} {p : PUnit → Prog (TpuEff nD τ sig (Elt F) Λ₀ .tc) α} :
    iprop(known P K ∗ levAts L lv ∗ owing c (k + 2) ∗ (ready false s c ∗ outgoing P false s c) ∗ (ready true s c ∗ outgoing P true s c))
      ⊢ iprop((owing c k ∗ (over false s c ∗ arrived P false s c) ∗ (over true s c ∗ arrived P true s c)
          -∗ wp frame (wpE (defs₀ (F := F)) 𝒱₀ (c : Thread nD τ) none) Set.univ (p ⟨⟩) Q)
        -∗ wp frame (wpE (defs₀ (F := F)) 𝒱₀ (c : Thread nD τ) none) Set.univ
          (.op (.enqueueDma src₀ (.remote (n₀ : Thread nD τ) dst₀ (.dma q₀) c₀) (.dma r₀) a₀ b₀ t₀) fun _ =>
            .op (.enqueueDma src₁ (.remote (n₁ : Thread nD τ) dst₁ (.dma q₁) c₁) (.dma r₁) a₁ b₁ t₁) fun _ =>
            .op (.waitDma2 q₀ dst₀ src₀ b₀' a₀') fun _ =>
            .op (.waitDma2 r₀ src₀ dst₀ a₀'' b₀'') fun _ =>
            .op (.waitDma2 q₁ dst₁ src₁ b₁' a₁') fun _ =>
            .op (.waitDma2 r₁ src₁ dst₁ a₁'' b₁'') p) Q) := by
  subst hk
  have e₀ : src₀.view.dmaCredit = N := by rw [hs₀]
  have e₁ : src₁.view.dmaCredit = N := by rw [hs₁]
  have f₀ : dst₀.view.dmaCredit = N := by rw [hd₀]
  have f₁ : dst₁.view.dmaCredit = N := by rw [hd₁]
  have hw : ∀ j < 10 - 2 * s.val, 2 + s.val < 2 + (11 - j) / 2 % 6 := fun j hj => by omega
  unfold owing ready outgoing over arrived
  iintro ⟨#HK, #Hlev, ⟨%W, HO⟩, ⟨⟨T₀, T₀', A₀, A₀', C₀'⟩, S₀, D₀, E₀⟩, ⟨T₁, T₁', A₁, A₁', C₁'⟩, S₁, D₁, E₁⟩ Hk
  iapply (wp_start K c (10 - 2 * s.val + 1) (msgOf_false s) hn₀ hs₀ hd₀ hq₀ hr₀ W) $$ [S₀ D₀ E₀ HO T₀ T₀']
  · isplitr; · iexact HK
    isplitl [S₀]; · iexact S₀
    isplitl [D₀]; · iexact D₀
    isplitl [E₀]; · iexact E₀
    isplitl [HO]; · iexact HO
    isplitl [T₀] <;> iassumption
  iintro ⟨C₀, HO⟩
  iapply (wp_start K c (10 - 2 * s.val) (msgOf_true s) hn₁ hs₁ hd₁ hq₁ hr₁ W) $$ [S₁ D₁ E₁ HO T₁ T₁']
  · isplitr; · iexact HK
    isplitl [S₁]; · iexact S₁
    isplitl [D₁]; · iexact D₁
    isplitl [E₁]; · iexact E₁
    isplitl [HO]; · iexact HO
    isplitl [T₁] <;> iassumption
  iintro ⟨C₁, HO⟩
  iapply (wp_await K c false false s (10 - 2 * s.val) (fun h => absurd h (by decide)) e₀ hq₀ _) $$ [C₀ HO A₀]
  · isplitr; · iexact HK
    isplitr; · iexact Hlev
    isplitl [C₀]; · iexact C₀
    isplitl [HO] <;> iassumption
  iintro ⟨HO, A₀, S₀⟩
  iapply (wp_await K c true false s (10 - 2 * s.val) (fun _ => hw) f₀ hr₀ _) $$ [C₀' HO A₀']
  · isplitr; · iexact HK
    isplitr; · iexact Hlev
    isplitl [C₀']; · iexact C₀'
    isplitl [HO] <;> iassumption
  iintro ⟨HO, A₀', D₀⟩
  iapply (wp_await K c false true s (10 - 2 * s.val) (fun h => absurd h (by decide)) e₁ hq₁ _) $$ [C₁ HO A₁]
  · isplitr; · iexact HK
    isplitr; · iexact Hlev
    isplitl [C₁]; · iexact C₁
    isplitl [HO] <;> iassumption
  iintro ⟨HO, A₁, S₁⟩
  iapply (wp_await K c true true s (10 - 2 * s.val) (fun _ => hw) f₁ hr₁ _) $$ [C₁' HO A₁']
  · isplitr; · iexact HK
    isplitr; · iexact Hlev
    isplitl [C₁']; · iexact C₁'
    isplitl [HO] <;> iassumption
  iintro ⟨HO, A₁', D₁⟩
  ihave S₀ := (Entails.of_eq (payload_out P c false s false)) $$ S₀
  ihave D₀ := (Entails.of_eq (payload_in P c false s false)) $$ D₀
  ihave S₁ := (Entails.of_eq (payload_out P c true s false)) $$ S₁
  ihave D₁ := (Entails.of_eq (payload_in P c true s false)) $$ D₁
  iapply Hk
  isplitl [HO]; · iexists _; iexact HO
  isplitl [A₀ A₀' S₀ D₀]
  · isplitl [A₀ A₀']
    · isplitl [A₀] <;> iassumption
    · isplitl [S₀] <;> iassumption
  · isplitl [A₁ A₁']
    · isplitl [A₁] <;> iassumption
    · isplitl [S₁] <;> iassumption

/-! ## From one step to the next -/

variable (P)

omit [FloatOps F] in
/-- What comes along with message `(d, k + 1)`, for `k` = 0, 1, 2, is room for the message of step `k + 3` the other way. -/
theorem extra_room (d : Bool) (k : Fin 3) (c : Dev nD) :
    extra (F := F) d (into (!d) c) (k.val + 1) = room (F := F) (into (!d) c) (landM (!d) ⟨k.val + 3, by omega⟩ c) := by
  show (if k.val < 3 then room (F := F) (into (!d) c) (chM (blk (!d) k.val (into (!d) c))) else iprop(emp)) = _
  rw [if_pos k.isLt]
  unfold landM
  rw [dif_neg (by show ¬ k.val + 3 < 3; omega)]
  congr 2
  rw [← blk_into (!d) (k.val + 3) c, ← blk_add_four (!d) k.val]

omit [FloatOps F] in
/-- The same, with the two steps named. -/
theorem extra_as_room (d : Bool) (s t : Fin 6) (k : Fin 3) (hs : s.val = k.val + 1) (ht : t.val = k.val + 3) (c : Dev nD) :
    extra (F := F) d (into (!d) c) s.val ⊢ room (F := F) (into (!d) c) (landM (!d) t c) := by
  rw [hs, extra_room d k c, show (⟨k.val + 3, by omega⟩ : Fin 6) = t from Fin.ext ht.symm]

/-- What arrives at an all-gather step is what is sent at the next one. -/
theorem arrived_next (d : Bool) (s : Fin 6) (hs : 3 ≤ s.val) (c : Dev nD) :
    (holds c (landM d s (into (!d) c)) (val P d s.val (into (!d) c)) : sProp 𝕄) = holds c (chM (blk d (s.val + 1) c)) (val P d (s.val + 1) c) := by
  unfold landM
  rw [dif_neg (by omega), val_keep P d s.val hs c]
  have h : blk d s.val (into (!d) c) = blk d (s.val + 1) c := by
    rw [← blk_into d s.val (into (!d) c), into_into_not]
  rw [h]

variable {P}

/-- A message that hands nothing over takes its chunk and room to land. -/
theorem outgoing_free (d : Bool) (s : Fin 6) (c : Dev nD) (h : extra (F := F) d c s.val = iprop(emp)) :
    iprop(holds c (chM (blk d s.val c)) (val P d s.val c) ∗ room (F := F) (into d c) (landM d s c)) ⊢ outgoing P d s c := by
  unfold outgoing
  rw [h]
  iintro ⟨H, R⟩
  isplitl [H]; · iexact H
  isplitl [R]; · iexact R
  iempintro

/-- Message `(d, k + 1)`, for `k` = 0, 1, 2, also takes the chunk sent the other way one step before. -/
theorem outgoing_next (d : Bool) (k : Fin 3) (c : Dev nD) (X : Vec F S512x128 .f32) :
    iprop(holds c (chM (blk d (k.val + 1) c)) (val P d (k.val + 1) c) ∗ room (F := F) (into d c) (landM d ⟨k.val + 1, by omega⟩ c)
      ∗ holds c (chM (blk (!d) k.val c)) X) ⊢ outgoing P d ⟨k.val + 1, by omega⟩ c := by
  have h : extra (F := F) d c (k.val + 1) = room (F := F) c (chM (blk (!d) k.val c)) := if_pos k.isLt
  unfold outgoing
  rw [h]
  iintro ⟨H, R, E⟩
  isplitl [H]; · iexact H
  isplitl [R]; · iexact R
  iexists X
  iexact E

/-- What a step leaves in direction `d`: its cells past their round, the chunk sent, the chunk to be sent next, and what came
    along with the arrival. -/
def passed (P : Dev nD → Vec F S512x1024 .f32) (d : Bool) (s : Fin 6) (c : Dev nD) : sProp 𝕄 :=
  iprop(over (F := F) d s c ∗ holds c (chM (blk d s.val c)) (val P d s.val c) ∗ holds c (chM (blk d (s.val + 1) c)) (val P d (s.val + 1) c)
    ∗ extra (F := F) d (into (!d) c) s.val)

set_option maxHeartbeats 1000000 in
/-- Step `s` of the reduce-scatter: the exchange, then in each direction the addition of what landed to the chunk sent next. -/
theorem wp_scatter (K : Dev nD × Cell → ℕ) (c : Dev nD) (t : Fin 3) (s : Fin 6) (hst : s = ⟨t.val, by omega⟩) (k : ℕ) (hk : k = 10 - 2 * s.val)
    {n₀ n₁ : Dev nD} (hn₀ : n₀ = into false c) (hn₁ : n₁ = into true c)
    {src₀ dst₀ src₁ dst₁ : Memref sig .tc .vmem S512x128 .f32}
    (hs₀ : src₀ = chM (blk false s.val c)) (hd₀ : dst₀ = landM false s c) (hs₁ : src₁ = chM (blk true s.val c)) (hd₁ : dst₁ = landM true s c)
    {q₀ r₀ q₁ r₁ : DmaSem sig} (hq₀ : q₀ = xsem false false s) (hr₀ : r₀ = xsem true false s) (hq₁ : q₁ = xsem false true s) (hr₁ : r₁ = xsem true true s)
    {c₀ : dst₀.view.ref.isScScratch = false} {c₁ : dst₁.view.ref.isScScratch = false}
    {a₀ a₀' a₀'' : src₀.view.WordExact} {b₀ b₀' b₀'' : dst₀.view.WordExact} {a₁ a₁' a₁'' : src₁.view.WordExact} {b₁ b₁' b₁'' : dst₁.view.WordExact}
    {t₀ : DmaTarget.Typed .vmem (.dma r₀) (.remote (n₀ : Thread nD τ) dst₀ (.dma q₀) c₀)}
    {t₁ : DmaTarget.Typed .vmem (.dma r₁) (.remote (n₁ : Thread nD τ) dst₁ (.dma q₁) c₁)}
    {o : Fin 2 → ℕ} (ho : o = at128 (blk false (t.val + 1) c)) {o' : Fin 4 → ℕ} (ho' : o' = slotAt false t)
    {u : Fin 2 → ℕ} (hu : u = at128 (blk true (t.val + 1) c)) {u' : Fin 4 → ℕ} (hu' : u' = slotAt true t)
    {i₁ i₂ i₃ : ∀ a, o a + S512x128.size a ≤ S512x1024.size a} {i' : ∀ a, o' a + S1x1x512x128.size a ≤ S2x3x512x128.size a}
    {j₁ j₂ j₃ : ∀ a, u a + S512x128.size a ≤ S512x1024.size a} {j' : ∀ a, u' a + S1x1x512x128.size a ≤ S2x3x512x128.size a}
    {h₁ h₂ h₃ hx hm g₁ g₂ g₃ gx gm} {pay pay' : Vec F S512x128 .f32 → Vec F S1x1x512x128 .f32 → Vec F S512x128 .f32}
    (hpay : ∀ v w, pay v w = addf v (shapeCast S512x128 w (by decide))) (hpay' : ∀ v w, pay' v w = addf v (shapeCast S512x128 w (by decide)))
    {α : Type} {Q : α → sProp 𝕄} {p : PUnit → Prog (TpuEff nD τ sig (Elt F) Λ₀ .tc) α} :
    iprop(known P K ∗ levAts L lv ∗ owing (F := F) c (k + 2) ∗ (ready (F := F) false s c ∗ ready (F := F) true s c)
        ∗ (outgoing P false s c ∗ holds c (chM (blk false (t.val + 1) c)) (part (P c) (blk false (t.val + 1) c)))
        ∗ (outgoing P true s c ∗ holds c (chM (blk true (t.val + 1) c)) (part (P c) (blk true (t.val + 1) c))))
      ⊢ iprop((owing (F := F) c k ∗ (passed P false s c ∗ room (F := F) c (slM false t)) ∗ (passed P true s c ∗ room (F := F) c (slM true t))
          -∗ wp frame (wpE (defs₀ (F := F)) 𝒱₀ (c : Thread nD τ) none) Set.univ (p ⟨⟩) Q)
        -∗ wp frame (wpE (defs₀ (F := F)) 𝒱₀ (c : Thread nD τ) none) Set.univ
          (.op (.enqueueDma src₀ (.remote (n₀ : Thread nD τ) dst₀ (.dma q₀) c₀) (.dma r₀) a₀ b₀ t₀) fun _ =>
            .op (.enqueueDma src₁ (.remote (n₁ : Thread nD τ) dst₁ (.dma q₁) c₁) (.dma r₁) a₁ b₁ t₁) fun _ =>
            .op (.waitDma2 q₀ dst₀ src₀ b₀' a₀') fun _ =>
            .op (.waitDma2 r₀ src₀ dst₀ a₀'' b₀'') fun _ =>
            .op (.waitDma2 q₁ dst₁ src₁ b₁' a₁') fun _ =>
            .op (.waitDma2 r₁ src₁ dst₁ a₁'' b₁'') fun _ =>
            .op (.load oM (Rect.unit (s := S512x1024) o S512x128.size i₁).toLoadRect h₁) fun v =>
            .op (.load gM (Rect.unit (s := S2x3x512x128) o' S1x1x512x128.size i').toLoadRect h₂) fun w =>
            .op (.load oM (Rect.unit (s := S512x1024) o S512x128.size i₂).toLoadRect h₃) fun _ =>
            .op (.store oM (Rect.unit (s := S512x1024) o S512x128.size i₃) (pay v w) Finset.univ hx hm) fun _ =>
            .op (.load oM (Rect.unit (s := S512x1024) u S512x128.size j₁).toLoadRect g₁) fun v =>
            .op (.load gM (Rect.unit (s := S2x3x512x128) u' S1x1x512x128.size j').toLoadRect g₂) fun w =>
            .op (.load oM (Rect.unit (s := S512x1024) u S512x128.size j₂).toLoadRect g₃) fun _ =>
            .op (.store oM (Rect.unit (s := S512x1024) u S512x128.size j₃) (pay' v w) Finset.univ gx gm) p) Q) := by
  subst hst
  have hland (d : Bool) (n : Dev nD) : landM d ⟨t.val, by omega⟩ n = slM d t := dif_pos t.isLt
  iintro ⟨#HK, #Hlev, HO, ⟨Rf, Rt⟩, ⟨Gf, Nf⟩, Gt, Nt⟩ Hk
  iapply (wp_exchange (P := P) K c _ k hk hn₀ hn₁ hs₀ hd₀ hs₁ hd₁ hq₀ hr₀ hq₁ hr₁) $$ [HO Rf Gf Rt Gt]
  · isplitr; · iexact HK
    isplitr; · iexact Hlev
    isplitl [HO]; · iexact HO
    isplitl [Rf Gf]
    · isplitl [Rf] <;> iassumption
    · isplitl [Rt] <;> iassumption
  unfold arrived passed
  simp only [hland]
  iintro ⟨HO, ⟨Of, Sf, Lf, Ef⟩, Ot, St, Lt, Et⟩
  iapply (wp_add c (P := P) false t ho ho' hpay) $$ [Nf Lf]
  · isplitl [Nf] <;> iassumption
  iintro ⟨Nf, Uf⟩
  iapply (wp_add c (P := P) true t hu hu' hpay') $$ [Nt Lt]
  · isplitl [Nt] <;> iassumption
  iintro ⟨Nt, Ut⟩
  iapply Hk
  isplitl [HO]; · iexact HO
  isplitl [Of Sf Nf Ef Uf]
  · isplitl [Of Sf Nf Ef]
    · isplitl [Of]; · iexact Of
      isplitl [Sf]; · iexact Sf
      isplitl [Nf] <;> iassumption
    iexact Uf
  · isplitl [Ot St Nt Et]
    · isplitl [Ot]; · iexact Ot
      isplitl [St]; · iexact St
      isplitl [Nt] <;> iassumption
    iexact Ut

set_option maxHeartbeats 1000000 in
/-- Step `s` of the all-gather: the exchange; what arrives is the chunk sent next. -/
theorem wp_gather (K : Dev nD × Cell → ℕ) (c : Dev nD) (s : Fin 6) (hs : 3 ≤ s.val) (k : ℕ) (hk : k = 10 - 2 * s.val)
    {n₀ n₁ : Dev nD} (hn₀ : n₀ = into false c) (hn₁ : n₁ = into true c)
    {m₀ m₁ : Memref sig .tc .vmem S512x128 .f32} (hm₀ : m₀ = chM (blk false s.val c)) (hm₁ : m₁ = chM (blk true s.val c))
    {q₀ r₀ q₁ r₁ : DmaSem sig} (hq₀ : q₀ = xsem false false s) (hr₀ : r₀ = xsem true false s) (hq₁ : q₁ = xsem false true s) (hr₁ : r₁ = xsem true true s)
    {c₀ : m₀.view.ref.isScScratch = false} {c₁ : m₁.view.ref.isScScratch = false}
    {a₀ a₀' a₀'' b₀ b₀' b₀'' : m₀.view.WordExact} {a₁ a₁' a₁'' b₁ b₁' b₁'' : m₁.view.WordExact}
    {t₀ : DmaTarget.Typed .vmem (.dma r₀) (.remote (n₀ : Thread nD τ) m₀ (.dma q₀) c₀)}
    {t₁ : DmaTarget.Typed .vmem (.dma r₁) (.remote (n₁ : Thread nD τ) m₁ (.dma q₁) c₁)}
    {α : Type} {Q : α → sProp 𝕄} {p : PUnit → Prog (TpuEff nD τ sig (Elt F) Λ₀ .tc) α} :
    iprop(known P K ∗ levAts L lv ∗ owing (F := F) c (k + 2) ∗ (ready (F := F) false s c ∗ ready (F := F) true s c) ∗ outgoing P false s c ∗ outgoing P true s c)
      ⊢ iprop((owing (F := F) c k ∗ passed P false s c ∗ passed P true s c
          -∗ wp frame (wpE (defs₀ (F := F)) 𝒱₀ (c : Thread nD τ) none) Set.univ (p ⟨⟩) Q)
        -∗ wp frame (wpE (defs₀ (F := F)) 𝒱₀ (c : Thread nD τ) none) Set.univ
          (.op (.enqueueDma m₀ (.remote (n₀ : Thread nD τ) m₀ (.dma q₀) c₀) (.dma r₀) a₀ b₀ t₀) fun _ =>
            .op (.enqueueDma m₁ (.remote (n₁ : Thread nD τ) m₁ (.dma q₁) c₁) (.dma r₁) a₁ b₁ t₁) fun _ =>
            .op (.waitDma2 q₀ m₀ m₀ b₀' a₀') fun _ =>
            .op (.waitDma2 r₀ m₀ m₀ a₀'' b₀'') fun _ =>
            .op (.waitDma2 q₁ m₁ m₁ b₁' a₁') fun _ =>
            .op (.waitDma2 r₁ m₁ m₁ a₁'' b₁'') p) Q) := by
  have hland (d : Bool) : landM d s c = chM (blk d s.val c) := dif_neg (by omega)
  iintro ⟨#HK, #Hlev, HO, ⟨Rf, Rt⟩, Gf, Gt⟩ Hk
  iapply (wp_exchange (P := P) K c s k hk hn₀ hn₁ hm₀ (hm₀.trans (hland false).symm) hm₁ (hm₁.trans (hland true).symm) hq₀ hr₀ hq₁ hr₁) $$ [HO Rf Gf Rt Gt]
  · isplitr; · iexact HK
    isplitr; · iexact Hlev
    isplitl [HO]; · iexact HO
    isplitl [Rf Gf]
    · isplitl [Rf] <;> iassumption
    · isplitl [Rt] <;> iassumption
  unfold arrived passed
  simp only [arrived_next P _ s hs c]
  iintro ⟨HO, ⟨Of, Sf, Nf, Ef⟩, Ot, St, Nt, Et⟩
  iapply Hk
  isplitl [HO]; · iexact HO
  isplitl [Of Sf Nf Ef]
  · isplitl [Of]; · iexact Of
    isplitl [Sf]; · iexact Sf
    isplitl [Nf] <;> iassumption
  · isplitl [Ot]; · iexact Ot
    isplitl [St]; · iexact St
    isplitl [Nt] <;> iassumption

end Cert.KernelIdeal.Ring

end
-- ==== Proof.HeadsKernelIdeal.lean ====
/-
# What a device computes before anything travels

A device computes the attention of its eight heads, one 512 × 128 block of columns after another, and multiplies the result
by its block of the output projection. This module names these values and gives the rules by which the body's loads and
stores produce them.
-/
module

public import proofs.«01_k».proof.Proof.ExchangeKernelIdeal

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The values -/

/-- The attention of head `h` of the device's eight, off the input and the device's blocks of the projections. -/
def headOf (x : Vec F S1x512x1024 .f32) (wq wk wv : Vec F S1024x1024 .f32) : Fin 8 → Vec F S512x128 .f32
  | 0 => k0_pay5 x wq wk wv
  | 1 => k0_pay7 (k0_pay3 x wk) (k0_pay4 x wv) (k0_pay6 x wq)
  | 2 => k0_pay8 (k0_pay2 x wq) (k0_pay3 x wk) (k0_pay4 x wv)
  | 3 => k0_pay9 (k0_pay2 x wq) (k0_pay3 x wk) (k0_pay4 x wv)
  | 4 => k0_pay11 (k0_pay10 (k0_pay2 x wq) (k0_pay3 x wk) (k0_pay4 x wv))
  | 5 => k0_pay12 (k0_pay2 x wq) (k0_pay3 x wk) (k0_pay4 x wv)
  | 6 => k0_pay14 (k0_pay13 (k0_pay2 x wq) (k0_pay3 x wk) (k0_pay4 x wv))
  | 7 => k0_pay15 (k0_pay2 x wq) (k0_pay3 x wk) (k0_pay4 x wv)

/-- The eight heads side by side. -/
def headsOf (x : Vec F S1x512x1024 .f32) (wq wk wv : Vec F S1024x1024 .f32) : Vec F S512x1024 .f32 := fun i =>
  headOf x wq wk wv (chunkOf i) (placeOf i)

/-- The device's own contribution to the result. -/
def partialOf (x : Vec F S1x512x1024 .f32) (wq wo wk wv : Vec F S1024x1024 .f32) : Vec F S512x1024 .f32 :=
  k0_pay16 (headsOf x wq wk wv) wo

/-- `f` with chunk `b` replaced by `X`. -/
def put (f : Vec F S512x1024 .f32) (b : Fin 8) (X : Vec F S512x128 .f32) : Vec F S512x1024 .f32 := fun i =>
  if chunkOf i = b then X (placeOf i) else f i

omit [FloatOps F] in
/-- Replacing all eight chunks leaves nothing of what was there. -/
theorem put_all (f : Vec F S512x1024 .f32) (X : Fin 8 → Vec F S512x128 .f32) :
    put (put (put (put (put (put (put (put f 0 (X 0)) 1 (X 1)) 2 (X 2)) 3 (X 3)) 4 (X 4)) 5 (X 5)) 6 (X 6)) 7 (X 7)
      = fun i => X (chunkOf i) (placeOf i) := by
  funext i
  unfold put
  generalize chunkOf i = b
  generalize placeOf i = j
  fin_cases b <;> rfl

/-! ## The rules -/

variable (c : Dev nD)

/-- A load from a buffer held whole, where what it reads is known. -/
theorem wp_load_as {S : Shape} {e : EltTy} (M : Memref sig .tc .vmem S e) {r : LoadRect S} {f : Buf (Elt F) (M.view.loc (c : Thread nD τ))}
    {g : r.shape.Idx → Elt F e} (hg : M.view.readAt (Elt F) r f = g) {hl : M.view.LoadsAt r}
    {α : Type} {Q : α → sProp 𝕄} {p : (r.shape.Idx → Elt F e) → Prog (TpuEff nD τ sig (Elt F) Λ₀ .tc) α} :
    (M.view.loc (c : Thread nD τ) ↦{fullShare} f : sProp 𝕄)
      ⊢ iprop(((M.view.loc (c : Thread nD τ) ↦{fullShare} f)
          -∗ wp frame (wpE (defs₀ (F := F)) 𝒱₀ (c : Thread nD τ) none) Set.univ (p g) Q)
        -∗ wp frame (wpE (defs₀ (F := F)) 𝒱₀ (c : Thread nD τ) none) Set.univ (.op (.load M r hl) p) Q) := by
  subst hg
  exact wp_load 𝒱₀ (c : Thread nD τ) none Set.univ (m := M) (Finset.subset_univ _)

/-- A store into a buffer held whole, where what it leaves is known. -/
theorem wp_store_as {S : Shape} {e : EltTy} (M : Memref sig .tc .vmem S e) {r : Rect S} {w : r.shape.Idx → Elt F e}
    {f g : Buf (Elt F) ((M.access r).loc (c : Thread nD τ))} (hg : (M.access r).write (Elt F) f w Finset.univ = g) {hx hm}
    {α : Type} {Q : α → sProp 𝕄} {p : PUnit → Prog (TpuEff nD τ sig (Elt F) Λ₀ .tc) α} :
    ((M.access r).loc (c : Thread nD τ) ↦{fullShare} f : sProp 𝕄)
      ⊢ iprop((((M.access r).loc (c : Thread nD τ) ↦{fullShare} g)
          -∗ wp frame (wpE (defs₀ (F := F)) 𝒱₀ (c : Thread nD τ) none) Set.univ (p ⟨⟩) Q)
        -∗ wp frame (wpE (defs₀ (F := F)) 𝒱₀ (c : Thread nD τ) none) Set.univ (.op (.store M r w Finset.univ hx hm) p) Q) := by
  subst hg
  exact wp_store 𝒱₀ (c : Thread nD τ) none Set.univ (m := M) (Finset.subset_univ _)

/-- The buffer that the heads are collected in. -/
abbrev aM : Memref sig .tc .vmem S512x1024 .f32 := Memref.whole cc0_scratch0

omit [FloatOps F] in
/-- Writing chunk `b`. -/
theorem write_chunk (f : Vec F S512x1024 .f32) (b : Fin 8) (X : Vec F S512x128 .f32) :
    (aM.access (chR b)).write (Elt F) f X Finset.univ = put f b X := by
  funext i
  unfold put
  by_cases h : chunkOf i = b
  · rw [if_pos h]
    have e : (aM.access (chR b)).emb (placeOf i) = i := by
      show (chR b).emb (placeOf i) = i
      rw [← h]; exact emb_placeOf i
    conv_lhs => rw [← e]
    exact View.write_emb_of_mem _ _ (Finset.mem_univ _)
  · rw [if_neg h]
    refine View.write_of_not_mem _ _ _ fun hi => h ((mem_chR b i).mp ?_)
    rw [View.setOn_univ] at hi
    rwa [show (aM.access (chR b)).set = (chR b).set from View.set_slice_whole _ _] at hi

/-- A load of a block of columns of the buffer of heads, then a store of head `b` there: what was loaded is not used. -/
theorem wp_head (b : Fin 8) (f : Vec F S512x1024 .f32) (X : Vec F S512x128 .f32) {o : Fin 2 → ℕ} (ho : o = at128 b)
    {i₁ i₂ : ∀ a, o a + S512x128.size a ≤ S512x1024.size a} {hl hx hm}
    {α : Type} {Q : α → sProp 𝕄} {p : PUnit → Prog (TpuEff nD τ sig (Elt F) Λ₀ .tc) α} :
    (((c : Thread nD τ).loc cc0_scratch0) ↦{fullShare} f : sProp 𝕄)
      ⊢ iprop(((((c : Thread nD τ).loc cc0_scratch0) ↦{fullShare} put f b X)
          -∗ wp frame (wpE (defs₀ (F := F)) 𝒱₀ (c : Thread nD τ) none) Set.univ (p ⟨⟩) Q)
        -∗ wp frame (wpE (defs₀ (F := F)) 𝒱₀ (c : Thread nD τ) none) Set.univ
          (.op (.load aM (Rect.unit (s := S512x1024) o S512x128.size i₁).toLoadRect hl) fun _ =>
            .op (.store aM (Rect.unit (s := S512x1024) o S512x128.size i₂) X Finset.univ hx hm) p) Q) := by
  subst ho
  have hput := write_chunk f b X
  iintro H Hk
  iapply (wp_load_as c aM rfl) $$ H
  iintro H
  iapply (wp_store_as c aM hput) $$ H
  iintro H
  iapply Hk
  iexact H

end Cert.KernelIdeal.Ring

end
-- ==== Proof.BodyKernelIdeal.lean ====
/-
# The body of the kernel at one device

A device signals both neighbours, waits for both, computes its contribution to the result, and goes through the six steps of
the ring; the first three are each followed by an addition in both directions.
-/
module

public import proofs.«01_k».proof.Proof.HeadsKernelIdeal
public import Idealize.ShloMosaic.Lib.Pipeline.Value

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device starts with -/

/-- The bookkeeping that device `c` starts with: it may signal both neighbours, it stands at the start of its barrier cell,
    and it has all that its twelve messages take. -/
def tickets (c : Dev nD) : sProp 𝕄 :=
  iprop(dutyTok ER (barCell (into true c)) 0 false ∗ dutyTok ER (barCell (into false c)) 0 true
    ∗ atPos ER (barCell c) 0 ∅ 0 ∗ cred (tallyAt (barCell c) () 2)
    ∗ bigSep Finset.univ fun s : Fin 6 => iprop(ready (F := F) false s c ∗ ready (F := F) true s c))

/-- What is left of it: every cell past its round. -/
def spent (c : Dev nD) : sProp 𝕄 :=
  iprop(atPos ER (barCell c) (0 + 1) ∅ 0
    ∗ bigSep Finset.univ fun s : Fin 6 => iprop(over (F := F) false s c ∗ over (F := F) true s c))

omit [FloatOps F] in
/-- The six steps, one by one. -/
theorem steps_eq (Φ : Fin 6 → sProp 𝕄) : bigSep Finset.univ Φ = iprop(Φ 0 ∗ Φ 1 ∗ Φ 2 ∗ Φ 3 ∗ Φ 4 ∗ Φ 5) := by
  rw [bigSep_univ_eq_bigSepL [(0 : Fin 6), 1, 2, 3, 4, 5] (by decide) (by decide)]; rfl

/-- The five argument blocks as staged on device `c`. -/
def staged (c : Dev nD) (x : Vec F S1x512x1024 .f32) (wq wo wk wv : Vec F S1024x1024 .f32) : sProp 𝕄 :=
  iprop((((c : Thread nD τ).loc cc0_stg0_0) ↦{fullShare} x) ∗ (((c : Thread nD τ).loc cc0_stg1_0) ↦{fullShare} wq)
    ∗ (((c : Thread nD τ).loc cc0_stg2_0) ↦{fullShare} wo) ∗ (((c : Thread nD τ).loc cc0_stg3_0) ↦{fullShare} wk)
    ∗ (((c : Thread nD τ).loc cc0_stg4_0) ↦{fullShare} wv))

omit [FloatOps F] in
/-- What is owed, whatever has been waited for. -/
theorem owing_intro (c : Dev nD) (k : ℕ) (W : Waits sig Unit) : (owes (c : Thread nD τ) (due c k) W : sProp 𝕄) ⊢ owing (F := F) c k := by
  unfold owing
  iintro H
  iexists W
  iexact H

/-- The six additions are the addition of the landed block, reshaped, to the chunk. -/
theorem sum_17 (v : Vec F S512x128 .f32) (w : Vec F S1x1x512x128 .f32) : k0_pay17 v w = addf v (shapeCast S512x128 w (by decide)) := by
  unfold k0_pay17; simp only [shapeCast_self]
theorem sum_18 (v : Vec F S512x128 .f32) (w : Vec F S1x1x512x128 .f32) : k0_pay18 v w = addf v (shapeCast S512x128 w (by decide)) := by
  unfold k0_pay18; simp only [shapeCast_self]
theorem sum_19 (v : Vec F S512x128 .f32) (w : Vec F S1x1x512x128 .f32) : k0_pay19 v w = addf v (shapeCast S512x128 w (by decide)) := by
  unfold k0_pay19; simp only [shapeCast_self]
theorem sum_20 (v : Vec F S512x128 .f32) (w : Vec F S1x1x512x128 .f32) : k0_pay20 v w = addf v (shapeCast S512x128 w (by decide)) := by
  unfold k0_pay20; simp only [shapeCast_self]
theorem sum_21 (v : Vec F S512x128 .f32) (w : Vec F S1x1x512x128 .f32) : k0_pay21 v w = addf v (shapeCast S512x128 w (by decide)) := by
  unfold k0_pay21; simp only [shapeCast_self]
theorem sum_22 (v : Vec F S512x128 .f32) (w : Vec F S1x1x512x128 .f32) : k0_pay22 v w = addf v (shapeCast S512x128 w (by decide)) := by
  unfold k0_pay22; simp only [shapeCast_self]

/-- A slice of the result buffer at a chunk's offset is the chunk. -/
theorem slice_eq {o : Fin 2 → ℕ} {b : Fin 8} (h : o = at128 b) (p : ∀ a, o a + S512x128.size a ≤ S512x1024.size a) (hs) :
    oM.slice (Rect.unit (s := S512x1024) o S512x128.size p) hs = chM b := Memref.slice_unit_congr _ h _ _ _ _

/-- Offset 0 in three and in two coordinates. -/
theorem zero3 : (![0, 0, 0] : Fin 3 → ℕ) = fun _ => 0 := by decide
theorem zero2 : (![0, 0] : Fin 2 → ℕ) = fun _ => 0 := by decide

set_option maxHeartbeats 4000000 in
/-- The body, run at a symbolic device `c` whose own contribution is `P c`: it leaves the arguments' blocks as they were and
    the result buffer at the sums around the ring. -/
theorem sound_body (P : Dev nD → Vec F S512x1024 .f32) (K : Dev nD × Cell → ℕ) (c : Dev nD)
    (x : Vec F S1x512x1024 .f32) (wq wo wk wv : Vec F S1024x1024 .f32) (hP : partialOf x wq wo wk wv = P c) (Q : PUnit → sProp 𝕄) :
    iprop((known P K ∗ levAts L lv ∗ tickets (F := F) c ∗ (∃ W, owes (c : Thread nD τ) (owed₀ c) W) ∗ staged c x wq wo wk wv
        ∗ (∃ f, ((c : Thread nD τ).loc cc0_stg5_0) ↦{fullShare} f)
        ∗ (∃ f, ((c : Thread nD τ).loc cc0_scratch0) ↦{fullShare} f) ∗ (∃ f, ((c : Thread nD τ).loc cc0_scratch1) ↦{fullShare} f))
      ∗ ((spent (F := F) c ∗ owing (F := F) c 0 ∗ staged c x wq wo wk wv
        ∗ (((c : Thread nD τ).loc cc0_stg5_0) ↦{fullShare} resultOf P c)
        ∗ (∃ f, ((c : Thread nD τ).loc cc0_scratch0) ↦{fullShare} f) ∗ (∃ f, ((c : Thread nD τ).loc cc0_scratch1) ↦{fullShare} f)) -∗ |={Set.univ}=> Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Q := by
  simp only [cc0_body_eq_skeleton, cc0_body_skel, k0_part25_eq_skeleton, k0_part25_skel, k0_part1_eq_skeleton, k0_part1_skel,
    k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel,
    k0_part8_eq_skeleton, k0_part8_skel, k0_part9_eq_skeleton, k0_part9_skel, k0_part10_eq_skeleton, k0_part10_skel,
    k0_part11_eq_skeleton, k0_part11_skel, k0_part12_eq_skeleton, k0_part12_skel, k0_part13_eq_skeleton, k0_part13_skel,
    k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel,
    k0_part20_eq_skeleton, k0_part20_skel, k0_part21_eq_skeleton, k0_part21_skel, k0_part22_eq_skeleton, k0_part22_skel,
    k0_part23_eq_skeleton, k0_part23_skel, k0_part24_eq_skeleton, k0_part24_skel,
    semSignalWord, semWaitWord, Prog.lift, Prog.bind_op, Prog.bind_ret, Prog.pure_eq_ret, Prog.bind_assoc, wp_deviceId]
  unfold tickets spent staged
  rw [steps_eq, steps_eq]
  iintro ⟨⟨#HK, #Hlev, ⟨Tr, Tl, A, C, R0, R1, R2, R3, R4, R5⟩, ⟨%W, HO⟩, ⟨Hx, Hq, Ho, Hk, Hv⟩, ⟨%fo, Hout⟩, ⟨%fa, Ha⟩, Hg⟩, Hend⟩
  ihave Hg := (slots_split c) $$ Hg
  icases Hg with ⟨Sf, St⟩
  -- the handshake
  iapply (wp_hello K c false (dev1_eq c) rfl (owed₁ c) rfl W) $$ [HO Tr Sf]
  · isplitr; · iexact HK
    isplitl [HO]; · iexact HO
    isplitl [Tr]; · iexact Tr
    iexact Sf
  iintro HO
  iapply (wp_hello K c true (dev2_eq c) rfl (due c 12) rfl W) $$ [HO Tl St]
  · isplitr; · iexact HK
    isplitl [HO]; · iexact HO
    isplitl [Tl]; · iexact Tl
    iexact St
  iintro HO
  iapply (wp_greeted K c rfl W) $$ [C HO A]
  · isplitr; · iexact HK
    isplitr; · iexact Hlev
    isplitl [C]; · iexact C
    isplitl [HO]; · iexact HO
    iexact A
  unfold slots
  iintro ⟨HO, A, ⟨Df0, Df1, Df2⟩, Dt0, Dt1, Dt2⟩
  -- the heads
  iapply (wp_load_as c (Memref.whole cc0_stg0_0) (Memref.readAt_unit_zero (Elt F) cc0_stg0_0 zero3 _ x)) $$ Hx
  iintro Hx
  iapply (wp_load_as c (Memref.whole cc0_stg1_0) (Memref.readAt_unit_zero (Elt F) cc0_stg1_0 zero2 _ wq)) $$ Hq
  iintro Hq
  iapply (wp_load_as c (Memref.whole cc0_stg3_0) (Memref.readAt_unit_zero (Elt F) cc0_stg3_0 zero2 _ wk)) $$ Hk
  iintro Hk
  iapply (wp_load_as c (Memref.whole cc0_stg4_0) (Memref.readAt_unit_zero (Elt F) cc0_stg4_0 zero2 _ wv)) $$ Hv
  iintro Hv
  iapply (wp_head c 0 _ (headOf x wq wk wv 0) rfl) $$ Ha; iintro Ha
  iapply (wp_head c 1 _ (headOf x wq wk wv 1) rfl) $$ Ha; iintro Ha
  iapply (wp_head c 2 _ (headOf x wq wk wv 2) rfl) $$ Ha; iintro Ha
  iapply (wp_head c 3 _ (headOf x wq wk wv 3) rfl) $$ Ha; iintro Ha
  iapply (wp_head c 4 _ (headOf x wq wk wv 4) rfl) $$ Ha; iintro Ha
  iapply (wp_head c 5 _ (headOf x wq wk wv 5) rfl) $$ Ha; iintro Ha
  iapply (wp_head c 6 _ (headOf x wq wk wv 6) rfl) $$ Ha; iintro Ha
  iapply (wp_head c 7 _ (headOf x wq wk wv 7) rfl) $$ Ha; iintro Ha
  -- the contribution
  iapply (wp_load_as c aM ((Memref.readAt_unit_zero (Elt F) cc0_scratch0 zero2 _ _).trans (put_all fa (headOf x wq wk wv)))) $$ Ha
  iintro Ha
  iapply (wp_load_as c (Memref.whole cc0_stg2_0) (Memref.readAt_unit_zero (Elt F) cc0_stg2_0 zero2 _ wo)) $$ Ho
  iintro Ho
  iapply (wp_load_as c oM rfl) $$ Hout
  iintro Hout
  iapply (wp_store_as c oM ((Memref.write_access_unit_zero_univ (Elt F) cc0_stg5_0 zero2 inb_S512x1024_S512x1024_0_0 fo _).trans hP)) $$ Hout
  iintro Hout
  ihave Hout := (Entails.of_eq (chunks_split c (P c))) $$ Hout
  icases Hout with ⟨⟨Cf0, Cf1, Cf2, Cf3⟩, Ct0, Ct1, Ct2, Ct3⟩
  ihave HO := (owing_intro c 12 _) $$ HO
  -- the reduce-scatter
  ihave Gf := (outgoing_free (P := P) false 0 c rfl) $$ [Cf0 Df0]
  · isplitl [Cf0]; · iexact Cf0
    iexact Df0
  ihave Gt := (outgoing_free (P := P) true 0 c rfl) $$ [Ct0 Dt0]
  · isplitl [Ct0]; · iexact Ct0
    iexact Dt0
  iapply (wp_scatter (P := P) K c 0 0 rfl 10 rfl (dev3_eq c) (dev4_eq c) (slice_eq (off1_8_eq c 0) _ _) rfl (slice_eq (off2_eq c 0) _ _) rfl
    rfl rfl rfl rfl (off3_eq c 0) rfl (off4_eq c 0) rfl sum_17 sum_18) $$ [HO R0 Gf Cf1 Gt Ct1]
  · isplitr; · iexact HK
    isplitr; · iexact Hlev
    isplitl [HO]; · iexact HO
    isplitl [R0]; · iexact R0
    isplitl [Gf Cf1]
    · isplitl [Gf]; · iexact Gf
      iexact Cf1
    · isplitl [Gt]; · iexact Gt
      iexact Ct1
  unfold passed
  iintro ⟨HO, ⟨⟨Of0, Cf0, Cf1, -⟩, Uf0⟩, ⟨Ot0, Ct0, Ct1, -⟩, Ut0⟩
  ihave Gf := (outgoing_next (P := P) false 0 c _) $$ [Cf1 Df1 Ct0]
  · isplitl [Cf1]; · iexact Cf1
    isplitl [Df1]; · iexact Df1
    iexact Ct0
  ihave Gt := (outgoing_next (P := P) true 0 c _) $$ [Ct1 Dt1 Cf0]
  · isplitl [Ct1]; · iexact Ct1
    isplitl [Dt1]; · iexact Dt1
    iexact Cf0
  iapply (wp_scatter (P := P) K c 1 1 rfl 8 rfl (dev5_eq c) (dev6_eq c) (slice_eq (off1_8_eq c 1) _ _) rfl (slice_eq (off2_eq c 1) _ _) rfl
    rfl rfl rfl rfl (off3_eq c 1) rfl (off4_eq c 1) rfl sum_19 sum_20) $$ [HO R1 Gf Cf2 Gt Ct2]
  · isplitr; · iexact HK
    isplitr; · iexact Hlev
    isplitl [HO]; · iexact HO
    isplitl [R1]; · iexact R1
    isplitl [Gf Cf2]
    · isplitl [Gf]; · iexact Gf
      iexact Cf2
    · isplitl [Gt]; · iexact Gt
      iexact Ct2
  unfold passed
  iintro ⟨HO, ⟨⟨Of1, Cf1, Cf2, Ef⟩, Uf1⟩, ⟨Ot1, Ct1, Ct2, Et⟩, Ut1⟩
  ihave Dt3 := (extra_as_room false 1 3 0 rfl rfl c) $$ Ef
  ihave Df3 := (extra_as_room true 1 3 0 rfl rfl c) $$ Et
  ihave Gf := (outgoing_next (P := P) false 1 c _) $$ [Cf2 Df2 Ct1]
  · isplitl [Cf2]; · iexact Cf2
    isplitl [Df2]; · iexact Df2
    iexact Ct1
  ihave Gt := (outgoing_next (P := P) true 1 c _) $$ [Ct2 Dt2 Cf1]
  · isplitl [Ct2]; · iexact Ct2
    isplitl [Dt2]; · iexact Dt2
    iexact Cf1
  iapply (wp_scatter (P := P) K c 2 2 rfl 6 rfl (dev7_eq c) (dev8_eq c) (slice_eq (off1_8_eq c 2) _ _) rfl (slice_eq (off2_eq c 2) _ _) rfl
    rfl rfl rfl rfl (off3_eq c 2) rfl (off4_eq c 2) rfl sum_21 sum_22) $$ [HO R2 Gf Cf3 Gt Ct3]
  · isplitr; · iexact HK
    isplitr; · iexact Hlev
    isplitl [HO]; · iexact HO
    isplitl [R2]; · iexact R2
    isplitl [Gf Cf3]
    · isplitl [Gf]; · iexact Gf
      iexact Cf3
    · isplitl [Gt]; · iexact Gt
      iexact Ct3
  unfold passed
  iintro ⟨HO, ⟨⟨Of2, Cf2, Cf3, Ef⟩, Uf2⟩, ⟨Ot2, Ct2, Ct3, Et⟩, Ut2⟩
  ihave Dt4 := (extra_as_room false 2 4 1 rfl rfl c) $$ Ef
  ihave Df4 := (extra_as_room true 2 4 1 rfl rfl c) $$ Et
  -- the all-gather
  ihave Gf := (outgoing_next (P := P) false 2 c _) $$ [Cf3 Df3 Ct2]
  · isplitl [Cf3]; · iexact Cf3
    isplitl [Df3]; · iexact Df3
    iexact Ct2
  ihave Gt := (outgoing_next (P := P) true 2 c _) $$ [Ct3 Dt3 Cf2]
  · isplitl [Ct3]; · iexact Ct3
    isplitl [Dt3]; · iexact Dt3
    iexact Cf2
  iapply (wp_gather (P := P) K c 3 (by decide) 4 rfl (dev9_eq c) (dev10_eq c) (slice_eq (off1_9_eq c 0) _ _) (slice_eq (off5_eq c 0) _ _)
    rfl rfl rfl rfl) $$ [HO R3 Gf Gt]
  · isplitr; · iexact HK
    isplitr; · iexact Hlev
    isplitl [HO]; · iexact HO
    isplitl [R3]; · iexact R3
    isplitl [Gf]; · iexact Gf
    iexact Gt
  unfold passed
  iintro ⟨HO, ⟨Of3, Cf3, Cf4, Ef⟩, Ot3, Ct3, Ct4, Et⟩
  ihave Dt5 := (extra_as_room false 3 5 2 rfl rfl c) $$ Ef
  ihave Df5 := (extra_as_room true 3 5 2 rfl rfl c) $$ Et
  ihave Gf := (outgoing_free (P := P) false 4 c rfl) $$ [Cf4 Df4]
  · isplitl [Cf4]; · iexact Cf4
    iexact Df4
  ihave Gt := (outgoing_free (P := P) true 4 c rfl) $$ [Ct4 Dt4]
  · isplitl [Ct4]; · iexact Ct4
    iexact Dt4
  iapply (wp_gather (P := P) K c 4 (by decide) 2 rfl (dev11_eq c) (dev12_eq c) (slice_eq (off1_9_eq c 1) _ _) (slice_eq (off5_eq c 1) _ _)
    rfl rfl rfl rfl) $$ [HO R4 Gf Gt]
  · isplitr; · iexact HK
    isplitr; · iexact Hlev
    isplitl [HO]; · iexact HO
    isplitl [R4]; · iexact R4
    isplitl [Gf]; · iexact Gf
    iexact Gt
  unfold passed
  iintro ⟨HO, ⟨Of4, Cf4, Cf5, -⟩, Ot4, Ct4, Ct5, -⟩
  ihave Gf := (outgoing_free (P := P) false 5 c rfl) $$ [Cf5 Df5]
  · isplitl [Cf5]; · iexact Cf5
    iexact Df5
  ihave Gt := (outgoing_free (P := P) true 5 c rfl) $$ [Ct5 Dt5]
  · isplitl [Ct5]; · iexact Ct5
    iexact Dt5
  iapply (wp_gather (P := P) K c 5 (by decide) 0 rfl (dev13_eq c) (dev14_eq c) (slice_eq (off1_9_eq c 2) _ _) (slice_eq (off5_eq c 2) _ _)
    rfl rfl rfl rfl) $$ [HO R5 Gf Gt]
  · isplitr; · iexact HK
    isplitr; · iexact Hlev
    isplitl [HO]; · iexact HO
    isplitl [R5]; · iexact R5
    isplitl [Gf]; · iexact Gf
    iexact Gt
  unfold passed
  iintro ⟨HO, ⟨Of5, Cf5, Cf6, -⟩, Ot5, Ct5, Ct6, -⟩
  -- the end
  rw [wp_ret]
  iapply Hend
  isplitl [A Of0 Of1 Of2 Of3 Of4 Of5 Ot0 Ot1 Ot2 Ot3 Ot4 Ot5]
  · isplitl [A]; · iexact A
    isplitl [Of0 Ot0]; · isplitl [Of0] <;> iassumption
    isplitl [Of1 Ot1]; · isplitl [Of1] <;> iassumption
    isplitl [Of2 Ot2]; · isplitl [Of2] <;> iassumption
    isplitl [Of3 Ot3]; · isplitl [Of3] <;> iassumption
    isplitl [Of4 Ot4]; · isplitl [Of4] <;> iassumption
    isplitl [Of5]; · iexact Of5
    iexact Ot5
  isplitl [HO]; · iexact HO
  isplitl [Hx Hq Ho Hk Hv]
  · isplitl [Hx]; · iexact Hx
    isplitl [Hq]; · iexact Hq
    isplitl [Ho]; · iexact Ho
    isplitl [Hk]; · iexact Hk
    iexact Hv
  isplitl [Cf3 Cf4 Cf5 Cf6 Ct3 Ct4 Ct5 Ct6]
  · iapply (Entails.of_eq (chunks_join P c))
    isplitl [Cf3 Cf4 Cf5 Cf6]
    · isplitl [Cf4]; · iexact Cf4
      isplitl [Cf5]; · iexact Cf5
      isplitl [Cf6]; · iexact Cf6
      iexact Cf3
    · isplitl [Ct4]; · iexact Ct4
      isplitl [Ct5]; · iexact Ct5
      isplitl [Ct6]; · iexact Ct6
      iexact Ct3
  isplitl [Ha]; · iexists _; iexact Ha
  iapply (slots_join c)
  unfold slots
  isplitl [Uf0 Uf1 Uf2]
  · isplitl [Uf0]; · iexact Uf0
    isplitl [Uf1]; · iexact Uf1
    iexact Uf2
  · isplitl [Ut0]; · iexact Ut0
    isplitl [Ut1] <;> iassumption

end Cert.KernelIdeal.Ring

end
-- ==== Proof.DealKernelIdeal.lean ====
/-
# Dealing the bookkeeping around the ring

At the start every cell of every device is opened and the right to pay each cell is dealt to the device that will pay it. At
the end every device closes its own cells.
-/
module

public import proofs.«01_k».proof.Proof.BodyKernelIdeal

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells one by one -/

/-- A message end's cells, over all steps. -/
abbrev perStep (Φ : Cell → sProp 𝕄) (r d : Bool) : sProp 𝕄 := bigSep Finset.univ fun s : Fin 6 => Φ (some (r, d, s))

omit [FloatOps F] in
/-- The barrier cell, and the others. -/
theorem cells_some (Φ : Cell → sProp 𝕄) :
    bigSep Finset.univ Φ = iprop(Φ none ∗ bigSep Finset.univ fun k : Bool × Bool × Fin 6 => Φ (some k)) := by
  rw [show (Finset.univ : Finset Cell) = insert none (Finset.univ.map Function.Embedding.some) from by decide,
    bigSep_insert (by decide), bigSep_map]
  rfl

omit [FloatOps F] in
/-- The barrier cell, then the four message ends. -/
theorem cells_eq (Φ : Cell → sProp 𝕄) :
    bigSep Finset.univ Φ = iprop(Φ none ∗ (perStep Φ false false ∗ perStep Φ false true) ∗ perStep Φ true false ∗ perStep Φ true true) := by
  have two (Ψ : Bool → sProp 𝕄) : bigSep Finset.univ Ψ = iprop(Ψ false ∗ Ψ true) :=
    bigSep_univ_eq_bigSepL [false, true] (by decide) (by decide) Ψ
  rw [cells_some, bigSep_univ_prod, two, bigSep_univ_prod, bigSep_univ_prod, two, two]

/-! ## Closing -/

variable (P : Dev nD → Vec F S512x1024 .f32)

/-- A device whose every cell is past its round closes them all: every counter is zero. -/
theorem close_all (K : Dev nD × Cell → ℕ) (c : Dev nD) :
    iprop(known P K ∗ spent (F := F) c) ⊢ |={Set.univ}=> bigSep Finset.univ fun k : Cell => (semVal (cellAt c k) 0 : sProp 𝕄) := by
  have one (k : Cell) : iprop(known P K ∗ atPos ER (cellAt c k) (0 + 1) ∅ 0) ⊢ |={Set.univ}=> (semVal (cellAt c k) 0 : sProp 𝕄) := by
    iintro ⟨#HK, Ha⟩
    ihave #HI := (known_inv P K c k) $$ HK
    iapply (Rounds.cell_close ER (ringRd P) (Set.mem_univ (K (c, k))) (fun h => h) (R := 0 + 1) (duties_later P _))
    isplitr; · iexact HI
    iexact Ha
  have all : iprop(known P K ∗ bigSep Finset.univ fun k : Cell => (atPos ER (cellAt c k) (0 + 1) ∅ 0 : sProp 𝕄))
      ⊢ |={Set.univ}=> bigSep Finset.univ fun k : Cell => (semVal (cellAt c k) 0 : sProp 𝕄) :=
    (BI.bigSep_with_persistent fun k _ => one k).trans (bigSep_fupd _ _)
  have sort : spent (F := F) c ⊢ bigSep Finset.univ fun k : Cell => (atPos ER (cellAt c k) (0 + 1) ∅ 0 : sProp 𝕄) := by
    rw [cells_eq]
    unfold spent over
    simp only [perStep, bigSep_sep']
    iintro ⟨H, ⟨A, B⟩, C, D⟩
    isplitl [H]; · iexact H
    isplitl [A C]
    · isplitl [A]; · iexact A
      iexact C
    isplitl [B]; · iexact B
    iexact D
  exact (sep_mono_right sort).trans all

/-! ## Opening -/

omit [FloatOps F] in
theorem tc_injective : Function.Injective fun c : Dev nD => (c : Thread nD τ) := fun a b h =>
  Fin.ext (congrArg (fun t : Thread nD τ => t.1.val) h)
omit [FloatOps F] in
theorem cellAt_injective : Function.Injective fun p : Dev nD × Cell => cellAt p.1 p.2 := by
  rintro ⟨c, k⟩ ⟨c', k'⟩ h
  exact Prod.ext (tc_injective (congrArg Prod.fst h)) (csem_injective (congrArg Prod.snd h))

/-- Every cell of the mesh, and every right to pay: one for each cell, a second one for each barrier. -/
def allCells : Finset (GSem nD τ sig) := Finset.univ.map ⟨_, cellAt_injective⟩
abbrev tokOf (p : Dev nD × Option Cell) : GSem nD τ sig × ℕ × Bool :=
  (cellAt p.1 (p.2.getD none), 0, p.2.isNone)
omit [FloatOps F] in
theorem tokOf_injective : Function.Injective tokOf := by
  rintro ⟨c, k⟩ ⟨c', k'⟩ h
  have hc : (c, k.getD none) = (c', k'.getD none) := cellAt_injective (congrArg (fun x : GSem nD τ sig × ℕ × Bool => x.1) h)
  have hb : k.isNone = k'.isNone := congrArg (fun x : GSem nD τ sig × ℕ × Bool => x.2.2) h
  have h1 : c = c' := congrArg Prod.fst hc
  have h2 : k.getD none = k'.getD none := congrArg Prod.snd hc
  subst h1
  cases k <;> cases k' <;> simp_all
def allToks : Finset (GSem nD τ sig × ℕ × Bool) := Finset.univ.map ⟨_, tokOf_injective⟩

/-- The rights to pay device `c`'s own cells. -/
def ownToks (c : Dev nD) : sProp 𝕄 :=
  iprop(dutyTok ER (barCell c) 0 true ∗ bigSep Finset.univ fun k : Cell => dutyTok ER (cellAt c k) 0 false)

/-- The rights that device `c` will use. -/
def payToks (c : Dev nD) : sProp 𝕄 :=
  iprop(dutyTok ER (barCell (into false c)) 0 true ∗ dutyTok ER (barCell (into true c)) 0 false
    ∗ ((bigSep Finset.univ fun s : Fin 6 => dutyTok ER (xCell false false s c) 0 false)
      ∗ bigSep Finset.univ fun s : Fin 6 => dutyTok ER (xCell false true s c) 0 false)
    ∗ (bigSep Finset.univ fun s : Fin 6 => dutyTok ER (xCell true false s (into false c)) 0 false)
    ∗ bigSep Finset.univ fun s : Fin 6 => dutyTok ER (xCell true true s (into true c)) 0 false)

omit [FloatOps F] in
/-- The rights dealt around: of each barrier one to either side, of each incoming cell to the device behind it. -/
theorem toks_around : (bigSep Finset.univ fun c : Dev nD => (ownToks c : sProp 𝕄)) = bigSep Finset.univ fun c : Dev nD => payToks c := by
  unfold ownToks payToks
  simp only [cells_eq]
  simp only [perStep, bigSep_sep']
  rw [bigSep_univ_equiv (turn false) (fun c : Dev nD => (dutyTok ER (barCell c) 0 true : sProp 𝕄)),
    bigSep_univ_equiv (turn true) (fun c : Dev nD => (dutyTok ER (cellAt c none) 0 false : sProp 𝕄)),
    bigSep_univ_equiv (turn false) (fun c : Dev nD => bigSep Finset.univ fun s : Fin 6 => (dutyTok ER (cellAt c (some (true, false, s))) 0 false : sProp 𝕄)),
    bigSep_univ_equiv (turn true) (fun c : Dev nD => bigSep Finset.univ fun s : Fin 6 => (dutyTok ER (cellAt c (some (true, true, s))) 0 false : sProp 𝕄))]
  rfl

/-- What the launch deals device `c`: its cells not yet opened, its places there, its own rights. -/
def dealt (c : Dev nD) : sProp 𝕄 :=
  iprop((bigSep Finset.univ fun k : Cell => roundState ER (ringRd P) (cellAt c k) 0)
    ∗ ((bigSep Finset.univ fun k : Cell => atPos ER (cellAt c k) 0 ∅ 0) ∗ bigSep Finset.univ fun k : Cell => reached ER (cellAt c k) 0)
    ∗ ownToks c)

/-- All bookkeeping is minted at once. -/
theorem mint : BI.own (ER (initOf allCells allToks)) ⊢ (|==> bigSep Finset.univ (dealt P) : sProp 𝕄) := by
  have hX (Φ : GSem nD τ sig → sProp 𝕄) : bigSep allCells Φ = bigSep Finset.univ fun c : Dev nD => bigSep Finset.univ fun k : Cell => Φ (cellAt c k) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks
    rw [bigSep_map, bigSep_univ_prod]
    refine bigSep_congr fun c _ => ?_
    unfold ownToks
    rw [show (Finset.univ : Finset (Option Cell)) = insert none (Finset.univ.map Function.Embedding.some) from by decide,
      bigSep_insert (by decide), bigSep_map]
    rfl
  iintro HX
  imod (Rounds.fund ER (ringRd P) allCells allToks) $$ HX with ⟨Hst, Hr, Hat, Htok⟩
  imodintro
  ihave Hst := (Entails.of_eq (hX fun g => roundState ER (ringRd P) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt
  simp only [bigSep_sep']
  isplitl [Hst]; · iexact Hst
  isplitl [Hat Hr]
  · isplitl [Hat]; · iexact Hat
    iexact Hr
  iexact Htok

/-- The semaphores that are the kernel's own: two for each message. -/
abbrev osem (k : Bool × Bool × Fin 6) : SemLoc sig := csem (some k)

omit [FloatOps F] in
/-- The barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together they are all cells at zero. -/
theorem sems0_eq (c : Dev nD) :
    (bigSep Finset.univ fun k : Cell => (semVal (cellAt c k) 0 : sProp 𝕄))
      = iprop(unscopedSems0 c ∗ Pipeline.ownSems0 (Ix := Unit) (Name := ℕ) (U := UU) (Lvl := ℕ) (Val := Elt F) (τ := τ) osem c) := by
  rw [cells_some, unscopedSems0_eq]; rfl

/-- Every device opens its cells. -/
theorem open_cells (c : Dev nD) :
    iprop(Pipeline.ownSems0 (Ix := Unit) (Name := ℕ) (U := UU) (Lvl := ℕ) (Val := Elt F) (τ := τ) osem c ∗ unscopedSems0 c ∗ dealt P c)
      ⊢ |={Set.univ}=> iprop((bigSep Finset.univ fun k : Cell => iprop(∃ κ : ℕ, cellInv ER (ringRd P) κ (cellAt c k)))
          ∗ ((bigSep Finset.univ fun k : Cell => atPos ER (cellAt c k) 0 ∅ 0) ∗ bigSep Finset.univ fun k : Cell => reached ER (cellAt c k) 0)
          ∗ ownToks c) := by
  have h : iprop((bigSep Finset.univ fun k : Cell => semVal (cellAt c k) 0) ∗ bigSep Finset.univ fun k : Cell => roundState ER (ringRd P) (cellAt c k) 0)
      ⊢ (|={Set.univ}=> bigSep Finset.univ fun k : Cell => iprop(∃ κ : ℕ, cellInv ER (ringRd P) κ (cellAt c k)) : sProp 𝕄) := by
    rw [← bigSep_sep']
    exact (bigSep_mono fun k _ => (Rounds.body_intro ER (ringRd P) (cellAt c k)).trans inv_alloc).trans (bigSep_fupd _ _)
  unfold dealt
  iintro ⟨Ho, Hu, Hst, Hrest⟩
  imod h $$ [Ho Hu Hst] with HI
  · isplitl [Ho Hu]
    · iapply (Entails.of_eq (sems0_eq c).symm)
      isplitl [Hu]; · iexact Hu
      iexact Ho
    · iexact Hst
  imodintro
  isplitl [HI]; · iexact HI
  iexact Hrest

/-- What device `c` goes into its body with, but for the credits. -/
def begin (c : Dev nD) : sProp 𝕄 :=
  iprop(∃ K, known P K ∗ (bigSep Finset.univ fun k : Cell => atPos ER (cellAt c k) 0 ∅ 0) ∗ payToks c)

/-- The invariants are shared by all, the rights dealt around. -/
theorem regroup :
    (bigSep Finset.univ fun c : Dev nD => iprop((bigSep Finset.univ fun k : Cell => iprop(∃ κ : ℕ, cellInv ER (ringRd P) κ (cellAt c k)))
          ∗ ((bigSep Finset.univ fun k : Cell => atPos ER (cellAt c k) 0 ∅ 0) ∗ bigSep Finset.univ fun k : Cell => reached ER (cellAt c k) 0)
          ∗ ownToks c) : sProp 𝕄)
      ⊢ bigSep Finset.univ (begin P) := by
  have one (K : Dev nD × Cell → ℕ) (c : Dev nD) :
      iprop(known P K ∗ ((bigSep Finset.univ fun k : Cell => atPos ER (cellAt c k) 0 ∅ 0) ∗ payToks c)) ⊢ begin P c := by
    iintro H; unfold begin; iexists K; iexact H
  rw [bigSep_sep', bigSep_sep', bigSep_sep', toks_around,
    ← bigSep_univ_prod (fun p : Dev nD × Cell => iprop(∃ κ : ℕ, cellInv ER (ringRd P) κ (cellAt p.1 p.2))),
    ← bigSep_univ_prod (fun p : Dev nD × Cell => (reached ER (cellAt p.1 p.2) 0 : sProp 𝕄))]
  iintro ⟨HI, ⟨Hat, #HR⟩, Htok⟩
  ihave HK := (BI.bigSep_exists_pi Finset.univ (fun (p : Dev nD × Cell) (κ : ℕ) => (cellInv ER (ringRd P) κ (cellAt p.1 p.2) : sProp 𝕄))) $$ HI
  icases HK with ⟨%K, #HI⟩
  iapply (BI.bigSep_with_persistent (R := known P K) fun c _ => one K c)
  isplitr
  · unfold known
    isplitl; · iexact HI
    iexact HR
  · iapply (Entails.of_eq (bigSep_sep' Finset.univ (fun c : Dev nD => bigSep Finset.univ fun k : Cell => (atPos ER (cellAt c k) 0 ∅ 0 : sProp 𝕄)) payToks).symm)
    isplitl [Hat]; · iexact Hat
    iexact Htok

/-- The mesh opens its cells and deals the rights. -/
theorem open_all :
    (bigSep Finset.univ fun c => iprop(Pipeline.ownSems0 (Ix := Unit) (Name := ℕ) (U := UU) (Lvl := ℕ) (Val := Elt F) (τ := τ) osem c ∗ unscopedSems0 c ∗ dealt P c) : sProp 𝕄)
      ⊢ |={Set.univ}=> bigSep Finset.univ (begin P) :=
  ((bigSep_mono fun c _ => open_cells P c).trans (bigSep_fupd _ _)).trans (BI.fupd_mono (regroup P))

/-! ## Credits -/

omit [FloatOps F] in
theorem xCell_eq_iff {d d' : Bool} {s s' : Fin 6} {a b : Dev nD} :
    xCell true d s a = xCell true d' s' b ↔ (d', s') = (d, s) ∧ b = a := by
  constructor
  · intro h
    have h1 := cellAt_injective (a₁ := (a, some (true, d, s))) (a₂ := (b, some (true, d', s'))) h
    simp only [Prod.mk.injEq, Option.some.injEq] at h1
    exact ⟨Prod.ext h1.2.2.1.symm h1.2.2.2.symm, h1.1.symm⟩
  · rintro ⟨h, rfl⟩
    obtain ⟨rfl, rfl⟩ := Prod.mk.inj h
    rfl

omit [FloatOps F] in
/-- What device `x` owes on an incoming cell of device `c`, message by message. -/
theorem due_apply (x c : Dev nD) (d : Bool) (s : Fin 6) : ∀ k,
    due x k (xCell true d s c) () = ∑ j ∈ Finset.range k, if msgOf (11 - j) = (d, s) ∧ into (msgOf (11 - j)).1 x = c then N else 0
  | 0 => rfl
  | k + 1 => by
    unfold due
    rw [Pi.add_apply, Finsupp.add_apply, due_apply x c d s k, tallyAt_apply, Finset.sum_range_succ]
    congr 1
    refine if_congr ?_ rfl rfl
    rw [xCell_eq_iff]
    exact ⟨fun h => h.1, fun h => ⟨h, rfl⟩⟩

omit [FloatOps F] in
/-- It owes one message if `c` is its neighbour in that direction. -/
theorem due_in (x c : Dev nD) (d : Bool) (s : Fin 6) : due x 12 (xCell true d s c) () = if into d x = c then N else 0 := by
  have one : ∀ (d : Bool) (s : Fin 6), ((Finset.range 12).filter fun j => msgOf (11 - j) = (d, s)).card = 1 := by decide
  rw [due_apply]
  have h : ∀ j, (msgOf (11 - j) = (d, s) ∧ into (msgOf (11 - j)).1 x = c) ↔ (msgOf (11 - j) = (d, s) ∧ into d x = c) := fun j =>
    ⟨fun ⟨a, b⟩ => ⟨a, by rw [a] at b; exact b⟩, fun ⟨a, b⟩ => ⟨a, by rw [a]; exact b⟩⟩
  simp only [h]
  by_cases hc : into d x = c
  · simp only [hc, and_true, if_true]
    rw [← Finset.sum_filter, Finset.sum_const, one, one_smul]
  · simp only [hc, and_false, if_false, Finset.sum_const_zero]

omit [FloatOps F] in
/-- What device `x` owes on an incoming cell of `c` at the start. -/
theorem owed_in (x c : Dev nD) (d : Bool) (s : Fin 6) : owed₀ x (xCell true d s c) () = if into d x = c then N else 0 := by
  have hb (a : Dev nD) : xCell true d s c ≠ barCell a := fun h => by cases congrArg Prod.snd h
  unfold owed₀ owed₁
  rw [Pi.add_apply, Finsupp.add_apply, Pi.add_apply, Finsupp.add_apply, tallyAt_ne_cell (hb _), tallyAt_ne_cell (hb _),
    Finsupp.zero_apply, Nat.add_zero, Nat.add_zero, due_in]

omit [FloatOps F] in
/-- What device `x` owes on the barrier of `c` at the start: a unit for either side that `c` is on. -/
theorem owed_bar (x c : Dev nD) :
    owed₀ x (barCell c) () = (if into false x = c then 1 else 0) + (if into true x = c then 1 else 0) := by
  have hb (a : Dev nD) : barCell c = barCell a ↔ a = c :=
    ⟨fun h => (tc_injective (congrArg Prod.fst h)).symm, fun h => by rw [h]⟩
  have hd : due x 12 (barCell c) () = 0 := by
    by_contra h
    obtain ⟨j, -, e⟩ := due_pos (Nat.pos_of_ne_zero h)
    cases congrArg Prod.snd e
  unfold owed₀ owed₁
  rw [Pi.add_apply, Finsupp.add_apply, Pi.add_apply, Finsupp.add_apply, hd, Nat.zero_add, tallyAt_apply, tallyAt_apply]
  simp only [hb, and_true]

omit [FloatOps F] in
theorem sum_into (d : Bool) (c : Dev nD) (n : ℕ) : (∑ x : Dev nD, if into d x = c then n else 0) = n := by
  rw [← Equiv.sum_comp (turn d).symm]
  simp only [show ∀ x, into d ((turn d).symm x) = x from fun x => into_into_not d x]
  rw [Finset.sum_ite_eq' Finset.univ c fun _ => n, if_pos (Finset.mem_univ _)]

omit [FloatOps F] in
theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun x _ => owed_bar x c, Finset.sum_add_distrib,
    sum_into, sum_into]

omit [FloatOps F] in
theorem launch_in (d : Bool) (s : Fin 6) (c : Dev nD) :
    tallyOn (xCell true d s c) (launchCredit (Pipeline.owing owed₀) 0 (xCell true d s c))
      = (tallyAt (xCell true d s c) () N : CellTallies nD τ sig Unit) := by
  unfold tallyAt; refine congrArg _ (Finsupp.ext fun u => ?_); cases u
  rw [Pipeline.launchCredit_owing, Finsupp.single_eq_same, Finset.sum_congr rfl fun x _ => owed_in x c d s, sum_into]

omit [FloatOps F] in
/-- The credits that device `c` has at the start: two units at its barrier, a message at each incoming cell. -/
theorem credits (c : Dev nD) :
    (Pipeline.launchCred owed₀ c : sProp 𝕄) ⊢ iprop(cred (tallyAt (barCell c) () 2)
      ∗ (bigSep Finset.univ fun s : Fin 6 => cred (tallyAt (xCell true false s c) () N))
      ∗ bigSep Finset.univ fun s : Fin 6 => cred (tallyAt (xCell true true s c) () N)) := by
  have h : (Pipeline.launchCred owed₀ c : sProp 𝕄)
      ⊢ bigSep Finset.univ fun k : Cell => cred (tallyOn (cellAt c k) (launchCredit (Pipeline.owing owed₀) 0 (cellAt c k))) := by
    unfold Pipeline.launchCred
    refine (bigSep_subset (Finset.subset_univ (Finset.univ.map ⟨csem, csem_injective⟩))).trans ?_
    rw [bigSep_map]
    exact BI.Entails.refl _
  refine h.trans ?_
  rw [cells_eq]
  iintro ⟨Hb, -, Hf, Ht⟩
  isplitl [Hb]
  · iapply (Entails.of_eq (congrArg cred (launch_bar c))); iexact Hb
  isplitl [Hf]
  · iapply (Entails.of_eq (bigSep_congr fun s _ => congrArg cred (launch_in false s c))); iexact Hf
  · iapply (Entails.of_eq (bigSep_congr fun s _ => congrArg cred (launch_in true s c))); iexact Ht

omit [FloatOps F] in
/-- Places, rights and credits together are what the body starts with. -/
theorem tickets_intro (c : Dev nD) :
    iprop((bigSep Finset.univ fun k : Cell => atPos ER (cellAt c k) 0 ∅ 0) ∗ payToks c ∗ Pipeline.launchCred owed₀ c) ⊢ (tickets c : sProp 𝕄) := by
  unfold tickets ready payToks
  rw [cells_eq]
  simp only [perStep, bigSep_sep']
  iintro ⟨⟨Ab, ⟨Aff, Aft⟩, Atf, Att⟩, ⟨Tt, Tf, ⟨Tff, Tft⟩, Ttf, Ttt⟩, HC⟩
  ihave HC := (credits c) $$ HC
  icases HC with ⟨Cb, Cf, Ct⟩
  isplitl [Tf]; · iexact Tf
  isplitl [Tt]; · iexact Tt
  isplitl [Ab]; · iexact Ab
  isplitl [Cb]; · iexact Cb
  isplitl [Tff Ttf Aff Atf Cf]
  · isplitl [Tff]; · iexact Tff
    isplitl [Ttf]; · iexact Ttf
    isplitl [Aff]; · iexact Aff
    isplitl [Atf]; · iexact Atf
    iexact Cf
  · isplitl [Tft]; · iexact Tft
    isplitl [Ttt]; · iexact Ttt
    isplitl [Aft]; · iexact Aft
    isplitl [Att]; · iexact Att
    iexact Ct

end Cert.KernelIdeal.Ring

end
-- ==== Proof.LaunchKernelIdeal.lean ====
/-
# The kernel launched on the mesh

From any memory with all counters zero the four devices run to the end; every array is then at a computed value and every
counter is zero again.
-/
module

public import proofs.«01_k».proof.Proof.DealKernelIdeal
public import proofs.«01_k».proof.Proof.Gen.KernelIdeal.Frame
public import Idealize.ShloMosaic.Lib.Pipeline.CollectiveSegs

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- The blocks of the five arguments that device `c` stages: `x`, `Wq`, `Wo`, `Wk`, `Wv`. -/
def xAt (c : Dev nD) : Vec F S1x512x1024 .f32 := iblk m c 0 t0_0
def wqAt (c : Dev nD) : Vec F S1024x1024 .f32 := iblk m c 1 t0_0
def woAt (c : Dev nD) : Vec F S1024x1024 .f32 := iblk m c 2 t0_0
def wkAt (c : Dev nD) : Vec F S1024x1024 .f32 := iblk m c 3 t0_0
def wvAt (c : Dev nD) : Vec F S1024x1024 .f32 := iblk m c 4 t0_0

/-- What device `c` contributes to the result. -/
def shareOf (c : Dev nD) : Vec F S512x1024 .f32 := partialOf (xAt m c) (wqAt m c) (woAt m c) (wkAt m c) (wvAt m c)

/-! ## The proof data of the pipeline -/

/-- What the body has before it runs besides the staging buffers, and after. -/
def before (c : Dev nD) : sProp 𝕄 :=
  iprop((begin (shareOf m) c ∗ Pipeline.launchCred owed₀ c ∗ levAts L lv)
    ∗ (∃ f, ((c : Thread nD τ).loc cc0_scratch0) ↦{fullShare} f) ∗ (∃ f, ((c : Thread nD τ).loc cc0_scratch1) ↦{fullShare} f))
def afterwards (c : Dev nD) : sProp 𝕄 :=
  iprop((bigSep Finset.univ fun k : Cell => (semVal (cellAt c k) 0 : sProp 𝕄))
    ∗ (∃ f, ((c : Thread nD τ).loc cc0_scratch0) ↦{fullShare} f) ∗ (∃ f, ((c : Thread nD τ).loc cc0_scratch1) ↦{fullShare} f))

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wqAt m c
    | ⟨2, _⟩ => woAt m c
    | ⟨3, _⟩ => wkAt m c
    | ⟨4, _⟩ => wvAt m c
    | ⟨5, _⟩ => resultOf (shareOf m) c
  Φ t := match t with
    | ⟨0, _⟩ => before m c
    | ⟨_ + 1, _⟩ => afterwards c
  q _ := fullShare
  owed t := match t with
    | ⟨0, _⟩ => owed₀ c
    | ⟨_ + 1, _⟩ => 0

/-! ## The body's obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_eq (c : Dev nD) (b : Ref sig .tc) (X : b.ty.Contents (Elt F)) :
    stg c b X = (iprop((((c : Thread nD τ).loc b) ↦{fullShare} X)) : sProp 𝕄) := by
  have h : stg c b X ⊢ (iprop((((c : Thread nD τ).loc b) ↦{fullShare} X)) : sProp 𝕄) := by
    iintro ⟨%f, %h, H⟩; subst h; iexact H
  have h' : (iprop((((c : Thread nD τ).loc b) ↦{fullShare} X)) : sProp 𝕄) ⊢ stg c b X := by
    iintro H; iexists X; isplitr; · (ipureintro; rfl)
    iexact H
  exact equiv_iff.mp ⟨h, h'⟩

def bodyPre (c : Dev nD) : sProp 𝕄 :=
  iprop(before m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def bodyPost (c : Dev nD) : sProp 𝕄 :=
  iprop(afterwards c ∗ (dats m 0 c).owesAt () t0_0.succ
    ∗ stg c cc0_stg0_0 (xAt m c) ∗ stg c cc0_stg1_0 (wqAt m c) ∗ stg c cc0_stg2_0 (woAt m c) ∗ stg c cc0_stg3_0 (wkAt m c)
    ∗ stg c cc0_stg4_0 (wvAt m c) ∗ stg c cc0_stg5_0 (resultOf (shareOf m) c))

/-- The input windows hold the blocks fetched. -/
theorem before_x (c : Dev nD) (d) : (dats m 0 c).before (0 : Fin 6) t0_0 d = xAt m c := by
  unfold Dat.before; rw [if_pos (fetch0_0 t0_0)]; rfl
theorem before_wq (c : Dev nD) (d) : (dats m 0 c).before (1 : Fin 6) t0_0 d = wqAt m c := by
  unfold Dat.before; rw [if_pos (fetch0_1 t0_0)]; rfl
theorem before_wo (c : Dev nD) (d) : (dats m 0 c).before (2 : Fin 6) t0_0 d = woAt m c := by
  unfold Dat.before; rw [if_pos (fetch0_2 t0_0)]; rfl
theorem before_wk (c : Dev nD) (d) : (dats m 0 c).before (3 : Fin 6) t0_0 d = wkAt m c := by
  unfold Dat.before; rw [if_pos (fetch0_3 t0_0)]; rfl
theorem before_wv (c : Dev nD) (d) : (dats m 0 c).before (4 : Fin 6) t0_0 d = wvAt m c := by
  unfold Dat.before; rw [if_pos (fetch0_4 t0_0)]; rfl

/-- The body meets the pipeline's demands. -/
theorem sound_point (c : Dev nD) :
    bodyPre m c ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3)
          (fun _ => bodyPost m c) := by
  unfold bodyPre before begin Dat.owesAt Pipeline.owesWithin
  simp only [before_x, before_wq, before_wo, before_wk, before_wv, stg_eq]
  rw [show (dats m 0 c).owed t0_0.castSucc = owed₀ c from rfl]
  iintro ⟨⟨⟨⟨%K, #HK, Hat, Htok⟩, Hcr, #Hlev⟩, Ha, Hg⟩, ⟨%W, %hW, HO⟩, ⟨%d0, Hx⟩, ⟨%d1, Hq⟩, ⟨%d2, Ho⟩, ⟨%d3, Hk⟩, ⟨%d4, Hv⟩, %d5, Hr⟩
  iapply (sound_body (shareOf m) K c (xAt m c) (wqAt m c) (woAt m c) (wkAt m c) (wvAt m c) rfl fun _ => bodyPost m c)
  isplitl
  · isplitr; · iexact HK
    isplitr; · iexact Hlev
    isplitl [Hat Htok Hcr]
    · iapply (tickets_intro c)
      isplitl [Hat]; · iexact Hat
      isplitl [Htok]; · iexact Htok
      iexact Hcr
    isplitl [HO]; · iexists W; iexact HO
    isplitl [Hx Hq Ho Hk Hv]
    · unfold staged
      isplitl [Hx]; · iexact Hx
      isplitl [Hq]; · iexact Hq
      isplitl [Ho]; · iexact Ho
      isplitl [Hk]; · iexact Hk
      iexact Hv
    isplitl [Hr]; · iexists _; iexact Hr
    isplitl [Ha]; · iexact Ha
    iexact Hg
  · unfold owing staged
    iintro ⟨Hs, ⟨%W', HO⟩, ⟨Hx, Hq, Ho, Hk, Hv⟩, Hr, Ha, Hg⟩
    imod (close_all (shareOf m) K c) $$ [Hs] with Hz
    · isplitr; · iexact HK
      iexact Hs
    imodintro
    unfold bodyPost afterwards Dat.owesAt Pipeline.owesWithin
    simp only [stg_eq]
    rw [show (dats m 0 c).owed t0_0.succ = 0 from rfl]
    isplitl [Hz Ha Hg]
    · isplitl [Hz]; · iexact Hz
      isplitl [Ha]; · iexact Ha
      iexact Hg
    isplitl [HO]
    · iexists W'
      isplitr; · ipureintro; exact fun _ _ => Or.inl trivial
      iexact HO
    isplitl [Hx]; · iexact Hx
    isplitl [Hq]; · iexact Hq
    isplitl [Ho]; · iexact Ho
    isplitl [Hk]; · iexact Hk
    isplitl [Hv]; · iexact Hv
    iexact Hr

theorem body_obligation (c : Dev nD) : BodyObligation (dats (F := F) m 0 c) (defs₀ (F := F)) 𝒱₀ () Set.univ := fun t => by
  rw [fin_N0 t]
  rw [bigSep_W0, bigSep_W0]
  simp only [owns_whole_eq]
  exact sound_point m c

/-! ## The launch -/

theorem ownSemFacts : Pipeline.OwnSemFacts cfg0.spec osem := by decide +kernel

theorem share_eq (c : Dev nD) (w : Fin cfg0.W) : (dats m 0 c).share w = fullShare := by unfold Dat.share; split <;> rfl

/-- The bookkeeping of the staging buffers and of the ring. -/
def u₀ : UU :=
  (initOf (Pipeline.cells cfgs cellOf_inj) (Pipeline.launchToks cfgs cellOf_inj), initOf allCells allToks)

/-- What a device enters the kernel with. -/
def start (c : Dev nD) : sProp 𝕄 := iprop(begin (shareOf m) c ∗ Pipeline.launchCred owed₀ c ∗ levAts L lv)

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ begin (shareOf m) c)
      ⊢ |={Set.univ}=> iprop(start m c ∗ emp) := by
  iintro ⟨-, Hlev, Hcr, -, HG⟩
  imodintro
  unfold start
  isplitl
  · isplitl [HG]; · iexact HG
    isplitl [Hcr]; · iexact Hcr
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before start
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = afterwards c from rfl, scopedRest0_eq]
  unfold afterwards
  iintro ⟨Hz, Hr⟩
  ihave Hz := (Entails.of_eq (sems0_eq c)) $$ Hz
  icases Hz with ⟨Hu, Ho⟩
  isplitl [Hu]; · iexact Hu
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_start c _ (by fin_cases w <;> fin_cases s <;> rfl)
    · show _ ⊢ MayWait _ _ _ 0
      rw [MayWait_zero]; iintro -; iempintro

/-! ## The run -/

/-- A window's array at the end. -/
def finalA (c : Dev nD) (w : Fin cfg0.W) : Buf (Elt F) ((cfg0.win w).arr.view.loc (c : Thread nD τ)) := (dats m 0 c).arrAt w cfg0.N

def Final : PUnit × MemSt nD τ sig (Elt F) → Prop := fun r =>
  ∀ c : Dev nD, ∀ w : Fin cfg0.W, r.2.mem ((cfg0.win w).arr.view.loc (c : Thread nD τ)) = finalA m c w

/-- From any memory with all counters zero: every weakly fair execution on the four devices terminates; at the end every
    window's array is at its computed contents and every counter is zero. -/
theorem run_main : θ_run defs (onTc (τ := τ) (main (F := F))) ⟨m, fun _ => 0, ρ⟩ (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := dealt (shareOf m)) (G' := begin (shareOf m)) (u₀ := u₀)
    (hu₀ := by
      unfold u₀
      iintro Hu
      ihave H := (ownU_pair _ _) $$ Hu
      icases H with ⟨HP, HX⟩
      imod (mint (shareOf m)) $$ HX with HG
      imodintro
      isplitl [HP] <;> iassumption)
    (hglob := open_all (shareOf m))
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input arrays end as they were. -/
theorem finalA_in (c : Dev nD) (w : Fin cfg0.W) (hw : (cfg0.win w).isOut = false) :
    finalA m c w = m ((cfg0.win w).arr.view.loc (c : Thread nD τ)) := (dats (F := F) m 0 c).arrAt_in w hw _

end Cert.KernelIdeal.Ring

end
-- ==== Proof.FramesKernelIdeal.lean ====
/-
# What the run leaves of the arguments

The launched kernel leaves its five arguments as they were and every counter at zero.
-/
module

public import proofs.«01_k».proof.Proof.LaunchKernelIdeal
public import Idealize.ShloMosaic.Lib.Claim

@[expose] public section

set_option maxRecDepth 8000

noncomputable section

namespace Cert.KernelIdeal.Ring

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-- The five arguments of device `c` are in `s` what they are in `m`. -/
def Kept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

/-- What the result array of device `c` holds at the end. -/
def resultA (c : Dev nD) : Buf (Elt F) ((c.tc : Thread nD τ).loc main_v1) := finalA m c 5

/-- At a final state the arguments are kept and the result array holds `resultA`. -/
theorem Final.reads {r : PUnit × MemSt nD τ sig (Elt F)} (h : Final m r) (c : Dev nD) :
    r.2.mem ((c.tc : Thread nD τ).loc main_v1) = resultA m c ∧ Kept m r.2 c :=
  ⟨h c 5, (h c 0).trans (finalA_in m c 0 rfl), (h c 1).trans (finalA_in m c 1 rfl), (h c 3).trans (finalA_in m c 3 rfl),
    (h c 4).trans (finalA_in m c 4 rfl), (h c 2).trans (finalA_in m c 2 rfl)⟩

/-- Every run ends with the arguments kept and every counter at zero. -/
theorem run_frame : θ_run defs (onTc (τ := τ) (main (F := F))) ⟨m, fun _ => 0, ρ⟩
    (fun r => (∀ c, Kept m r.2 c) ∧ r.2.sem = fun _ => 0) :=
  (θ_run defs _ _).mono (fun _ h => ⟨fun c => (h.1.reads m c).2, h.2⟩) (run_main m ρ)

/-- Every run ends with the result array at `resultA` and the arguments kept. -/
theorem run_result : θ_run defs (onTc (τ := τ) (main (F := F))) ⟨m, fun _ => 0, ρ⟩
    (fun r => ∀ c : Dev nD, r.2.mem ((c.tc : Thread nD τ).loc main_v1) = resultA m c ∧ Kept m r.2 c) :=
  (θ_run defs _ _).mono (fun _ h c => h.1.reads m c) (run_main m ρ)

end Cert.KernelIdeal.Ring

end
-- ==== Proof.FramesReferenceIdeal.lean ====
/-
# The reference's run

The reference leaves its arguments as they were; it has no counter.
-/
module

public import proofs.«01_k».proof.Proof.Gen.ReferenceIdeal.Run
public import Idealize.ShloMosaic.Lib.Quiescent

@[expose] public section

noncomputable section

namespace Cert.ReferenceIdeal.Value

open Cert.ReferenceIdeal Cert.ReferenceIdeal.Gen
open Idealize.ShloMosaic Idealize.ShloMosaic.TcCoe Idealize.SL.Sem

variable {F : FTy → Type} [FloatOps F]

/-- Every run of the reference ends with its arguments kept and every counter at zero. -/
theorem run_frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => (h c).2, sem_eq_zero_of_no_sems (by decide) r.2⟩) (run m ρ)

end Cert.ReferenceIdeal.Value

end
-- ==== Proof.ResultKernelIdeal.lean ====
/-
# The arrays behind the staged blocks

Every window of the launch is its whole array.  So each block the body reads is the argument itself, and the result array
ends at what the body left in its staging buffer.
-/
module

public import proofs.«01_k».proof.Proof.FramesKernelIdeal

@[expose] public section

set_option maxRecDepth 8000

noncomputable section

namespace Cert.KernelIdeal.Ring

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- An element of the block of a window whose block index is zero sits in the array at its own coordinates. -/
theorem rect_val (w : Pipeline.Window sig grid0) (h : ∀ a, w.index t0_0 a = 0)
    (y : (w.xblock (grid0.coords t0_0)).Idx) (a : Fin w.shape.rank) : ((w.rect t0_0).emb y a : Nat) = y a :=
  w.rect_emb_val_of_index_zero t0_0 a (h a) y

/-- The staged rows are the first argument. -/
theorem xAt_eq (c : Dev nD) : xAt m c = m ((c.tc : Thread nD τ).loc main_arg0) := by
  funext y
  exact congrArg (m ((c.tc : Thread nD τ).loc main_arg0)) (funext fun a => Fin.ext (rect_val win0_0 (fun _ => rfl) y a))

/-- The staged query weights are the second argument. -/
theorem wqAt_eq (c : Dev nD) : wqAt m c = m ((c.tc : Thread nD τ).loc main_arg1) := by
  funext y
  exact congrArg (m ((c.tc : Thread nD τ).loc main_arg1)) (funext fun a => Fin.ext (rect_val win0_1 (fun _ => rfl) y a))

/-- The staged output weights are the fifth argument. -/
theorem woAt_eq (c : Dev nD) : woAt m c = m ((c.tc : Thread nD τ).loc main_arg4) := by
  funext y
  exact congrArg (m ((c.tc : Thread nD τ).loc main_arg4)) (funext fun a => Fin.ext (rect_val win0_2 (fun _ => rfl) y a))

/-- The staged key weights are the third argument. -/
theorem wkAt_eq (c : Dev nD) : wkAt m c = m ((c.tc : Thread nD τ).loc main_arg2) := by
  funext y
  exact congrArg (m ((c.tc : Thread nD τ).loc main_arg2)) (funext fun a => Fin.ext (rect_val win0_3 (fun _ => rfl) y a))

/-- The staged value weights are the fourth argument. -/
theorem wvAt_eq (c : Dev nD) : wvAt m c = m ((c.tc : Thread nD τ).loc main_arg3) := by
  funext y
  exact congrArg (m ((c.tc : Thread nD τ).loc main_arg3)) (funext fun a => Fin.ext (rect_val win0_4 (fun _ => rfl) y a))

/-- An element of the result's block sits in the result array at its own coordinates. -/
theorem emb_result (y : S512x1024.Idx) : ((cfg0.win 5).blk t0_0).view.emb y = y :=
  funext fun a => Fin.ext (rect_val win0_5 (fun _ => rfl) y a)

/-- What the launch writes back is the sum of the four shares. -/
theorem flushed_result (c : Dev nD) (t : Fin cfg0.N) :
    (dats m 0 c).flushed 5 t = ((cfg0.win 5).blk t).view.read (Elt F) (resultOf (shareOf m) c) := by
  obtain rfl := fin_N0 t
  have ha : (dats m 0 c).after 5 t0_0 = resultOf (shareOf m) c := by dsimp only [dats]
  unfold Pipeline.Dat.flushed
  rw [ha]
  funext y
  exact (congrArg (resultOf (shareOf m) c) (emb_result y)).symm

/-- The result array ends at the sum of the four shares. -/
theorem resultA_eq (c : Dev nD) : resultA m c = resultOf (shareOf m) c :=
  (dats m 0 c).arrAt_eq_of_cover 5 (resultOf (shareOf m) c) (fun t _ => flushed_result m c t) fun i =>
    ⟨t0_0, flush0_5 _, by
      have h := ((cfg0.win 5).blk t0_0).view.emb_mem_set i
      rwa [emb_result] at h⟩

end Cert.KernelIdeal.Ring

end
-- ==== Proof.Attention.lean ====
/-
# Attention over the extended reals

The formula that the kernel and the reference both compute, for one head: queries, keys and values as plain functions.
-/
module

public import Idealize.ShloMosaic.PureOps.Ideal.Laws

@[expose] public section

noncomputable section

namespace Cert.Attention

open Idealize.ShloMosaic
open scoped BigOperators

/-- The factor on the scores: the f32 word nearest to 1/√128. -/
def factor : EReal := Ideal.ofBits .f32 0x3DB504F3#32
/-- Where a row's maximum starts. -/
def lowest : EReal := Ideal.ofBits .f32 0xFF800000#32

/-- A matrix of 512 rows of a head. -/
abbrev Rows := Fin 512 → Fin 128 → EReal

/-- How much row `i` attends to row `j`, scaled. -/
def score (q k : Rows) (i j : Fin 512) : EReal := (∑ d, q i d * k j d) * factor
/-- A row's maximum. -/
def peak (f : Fin 512 → EReal) : EReal := (Finset.univ : Finset (Fin 512)).fold max lowest f
/-- The weight of row `j` for row `i`, before normalising. -/
def weight (q k : Rows) (i j : Fin 512) : EReal := Ideal.exp (score q k i j - peak (score q k i))
/-- The attention of one head: the weighted rows of `v` over the sum of the weights. -/
def attend (q k v : Rows) : Rows := fun i d => Ideal.div (∑ j, weight q k i j * v j d) (∑ j, weight q k i j)

/-- The lowest is under every maximum. -/
theorem max_lowest_peak (f : Fin 512 → EReal) : max lowest (peak f) = peak f :=
  max_eq_right ((Finset.le_fold_max _).mpr (Or.inl le_rfl))

/-- A product of a matrix of 512 rows with a matrix of 1024. -/
def times {n : ℕ} (a : Fin 512 → Fin 1024 → EReal) (b : Fin 1024 → Fin n → EReal) : Fin 512 → Fin n → EReal := fun i j =>
  ∑ k, a i k * b k j

end Cert.Attention

end
-- ==== Proof.HeadKernelIdeal.lean ====
/-
# A head of the kernel, element by element

Each of the kernel's eight heads is one function of three slices; over the extended reals that function is the attention
formula.
-/
module

public import proofs.«01_k».proof.Proof.HeadsKernelIdeal
public import proofs.«01_k».proof.Proof.Attention
public import Idealize.ShloMosaic.Lib.Pointwise

@[expose] public section

set_option maxRecDepth 16384

noncomputable section

namespace Cert.KernelIdeal.Ring

open Cert.KernelIdeal Cert.KernelIdeal.Gen Cert.Attention
open Idealize.ShloMosaic
open scoped BigOperators

section AnyFloat
variable {F : FTy → Type} [FloatOps F]

/-- A slice of 128 columns fits. -/
theorem slices128 (b : Fin 8) : S512x1024.Slices (at128 b) S512x128 := by revert b; decide

/-- Columns `128 b` to `128 b + 127`. -/
def cut (b : Fin 8) (x : FVec F S512x1024 .f32) : FVec F S512x128 .f32 := extractStridedSlice S512x128 (at128 b) x (slices128 b)

/-- The kernel's scores of a head: the products of rows, scaled. -/
def scoresK (q k : FVec F S512x128 .f32) : FVec F S512x512 .f32 :=
  mulf (matmul dot_S512x128_S512x128_S512x512_1_1_0_0_n_n none (truncf .bf16 q bitsLt_bf16_f32) (truncf .bf16 k bitsLt_bf16_f32)
    (constant S512x512 .f32 0x00000000#32)) (broadcast S512x512 (Scalar.ofBits .f32 0x3DB504F3#32))

/-- The kernel's weights of a head, from its scores. -/
def weightsK (s : FVec F S512x512 .f32) : FVec F S512x512 .f32 :=
  exp (subf s (broadcastTo S512x512 (shapeCast S512x1 (multiReduction .maximumf [1] S512 s 0xFF800000#32 reduces_S512x512_S512 (.inl rfl) rfl)
    shapeCasts_S512_S512x1) broadcasts_S512x1_S512x512))

/-- The kernel's output of a head, from its weights and values. -/
def mixK (p : FVec F S512x512 .f32) (v : FVec F S512x128 .f32) : FVec F S512x128 .f32 :=
  shapeCast S512x128 (divf
    (matmul dot_S512x512_S512x128_S512x128_1_0_0_1_n_n none (truncf .bf16 p bitsLt_bf16_f32) (truncf .bf16 v bitsLt_bf16_f32)
      (constant S512x128 .f32 0x00000000#32))
    (broadcastTo S512x128 (shapeCast S512x1 (multiReduction .add [1] S512 p 0x00000000#32 reduces_S512x512_S512 (.inl rfl) rfl)
      shapeCasts_S512_S512x1) broadcasts_S512x1_S512x128)) shapeCasts_S512x128_S512x128

/-- Every head is the same function of its slices of the projections. -/
theorem headOf_eq (x : Vec F S1x512x1024 .f32) (wq wk wv : Vec F S1024x1024 .f32) (b : Fin 8) :
    headOf x wq wk wv b = mixK (weightsK (scoresK (cut b (k0_pay2 x wq)) (cut b (k0_pay3 x wk)))) (cut b (k0_pay4 x wv)) := by
  fin_cases b <;> rfl

end AnyFloat

/-- Column `d` of head `b`. -/
def col (b : Fin 8) (d : Fin 128) : Fin 1024 := ⟨128 * b.val + d.val, by omega⟩

theorem cut_apply (b : Fin 8) (x : FVec Ideal S512x1024 .f32) (i : Fin 512) (d : Fin 128) :
    cut b x (ix2 i d) = x (ix2 i (col b d)) :=
  extractStridedSlice_apply _ _ _ _ _ fun a => by fin_cases a <;> simp [at128, col]

theorem scoresK_apply (q k : FVec Ideal S512x128 .f32) (i j : Fin 512) :
    scoresK q k (ix2 i j) = score (fun i d => q (ix2 i d)) (fun i d => k (ix2 i d)) i j := by
  pointwise [scoresK, score, factor]

theorem weightsK_apply (s : FVec Ideal S512x512 .f32) (i j : Fin 512) :
    weightsK s (ix2 i j) = Ideal.exp (s (ix2 i j) - peak fun j => s (ix2 i j)) := by
  pointwise [weightsK, peak, lowest]

theorem mixK_apply (p : FVec Ideal S512x512 .f32) (v : FVec Ideal S512x128 .f32) (i : Fin 512) (d : Fin 128) :
    mixK p v (ix2 i d) = Ideal.div (∑ j : Fin 512, p (ix2 i j) * v (ix2 j d)) (∑ j : Fin 512, p (ix2 i j)) := by
  pointwise [mixK]

/-- The entries of a matrix. -/
def entries {M N : ℕ} (x : FVec Ideal ⟨2, ![M, N]⟩ .f32) : Fin M → Fin N → EReal := fun i j => x (ix2 i j)
/-- The entries of the input. -/
def input (x : FVec Ideal S1x512x1024 .f32) : Fin 512 → Fin 1024 → EReal := fun i j => x (ix3 0 i j)

theorem proj_q (x : Vec Ideal S1x512x1024 .f32) (w : Vec Ideal S1024x1024 .f32) (i : Fin 512) (j : Fin 1024) :
    k0_pay2 x w (ix2 i j) = times (input x) (entries w) i j := by
  pointwise [k0_pay2, k0_pay1, times, input, entries]
theorem proj_k (x : Vec Ideal S1x512x1024 .f32) (w : Vec Ideal S1024x1024 .f32) (i : Fin 512) (j : Fin 1024) :
    k0_pay3 x w (ix2 i j) = times (input x) (entries w) i j := by
  pointwise [k0_pay3, k0_pay1, times, input, entries]
theorem proj_v (x : Vec Ideal S1x512x1024 .f32) (w : Vec Ideal S1024x1024 .f32) (i : Fin 512) (j : Fin 1024) :
    k0_pay4 x w (ix2 i j) = times (input x) (entries w) i j := by
  pointwise [k0_pay4, k0_pay1, times, input, entries]

/-- Head `b`'s columns of a projection. -/
def headRows (x : Fin 512 → Fin 1024 → EReal) (w : Fin 1024 → Fin 1024 → EReal) (b : Fin 8) : Rows := fun i d =>
  times x w i (col b d)

/-- Head `b` of the device is the attention formula at its columns of the three projections. -/
theorem headOf_apply (x : Vec Ideal S1x512x1024 .f32) (wq wk wv : Vec Ideal S1024x1024 .f32) (b : Fin 8) (i : Fin 512) (d : Fin 128) :
    headOf x wq wk wv b (ix2 i d)
      = attend (headRows (input x) (entries wq) b) (headRows (input x) (entries wk) b) (headRows (input x) (entries wv) b) i d := by
  rw [headOf_eq, mixK_apply]
  simp only [weightsK_apply, scoresK_apply, cut_apply, proj_q, proj_k, proj_v]
  rfl

/-- The head and the place in it of a column. -/
def headNo (k : Fin 1024) : Fin 8 := ⟨k.val / 128, by omega⟩
def headCol (k : Fin 1024) : Fin 128 := ⟨k.val % 128, by omega⟩

theorem headsOf_apply (x : Vec Ideal S1x512x1024 .f32) (wq wk wv : Vec Ideal S1024x1024 .f32) (i : Fin 512) (k : Fin 1024) :
    headsOf x wq wk wv (ix2 i k) = headOf x wq wk wv (headNo k) (ix2 i (headCol k)) := by
  have hp : placeOf (ix2 i k) = ix2 i (headCol k) := by
    funext a; apply Fin.ext
    match a with
    | ⟨0, _⟩ => rfl
    | ⟨1, _⟩ => show k.val - 128 * (k.val / 128) = k.val % 128; omega
  show headOf x wq wk wv (chunkOf (ix2 i k)) (placeOf (ix2 i k)) = _
  rw [hp]; rfl

/-- A device's contribution: its heads times its rows of the last matrix. -/
theorem partialOf_apply (x : Vec Ideal S1x512x1024 .f32) (wq wo wk wv : Vec Ideal S1024x1024 .f32) (i : Fin 512) (j : Fin 1024) :
    partialOf x wq wo wk wv (ix2 i j)
      = ∑ k : Fin 1024, attend (headRows (input x) (entries wq) (headNo k)) (headRows (input x) (entries wk) (headNo k))
          (headRows (input x) (entries wv) (headNo k)) i (headCol k) * wo (ix2 k j) := by
  simp only [← headOf_apply, ← headsOf_apply]
  pointwise [partialOf, k0_pay16]

end Cert.KernelIdeal.Ring

end
-- ==== Proof.AroundKernelIdeal.lean ====
/-
# What the ring computes

Over the extended reals every device ends up with the sum of the four devices' contributions.
-/
module

public import proofs.«01_k».proof.Proof.BuffersKernelIdeal
public import Idealize.ShloMosaic.Lib.ValueIdx

@[expose] public section

set_option maxRecDepth 16384

noncomputable section

namespace Cert.KernelIdeal.Ring

open Cert.KernelIdeal Cert.KernelIdeal.Gen
open Idealize.ShloMosaic
open scoped BigOperators

/-- The chunk that a device sends at a step is the chunk that its neighbour behind sent a step before. -/
theorem blk_succ (d : Bool) (s : ℕ) (c : Dev nD) : blk d (s + 1) c = blk d s (into (!d) c) := by
  have h := blk_into d s (into (!d) c)
  rwa [into_into_not] at h

/-- The last contents of a chunk come unchanged from the device that completed the sum. -/
theorem val_tail {F : FTy → Type} [FloatOps F] (P : Dev nD → Vec F S512x1024 .f32) (d : Bool) :
    ∀ (k : ℕ) (c : Dev nD), ∃ c' : Dev nD, val P d (3 + k) c = val P d 3 c' ∧ blk d (3 + k) c = blk d 3 c'
  | 0, c => ⟨c, rfl, rfl⟩
  | k + 1, c => by
    obtain ⟨c', h, h'⟩ := val_tail P d k (into (!d) c)
    refine ⟨c', ?_, ?_⟩
    · rw [← h, ← Nat.add_assoc, val_keep P d (3 + k) (by omega)]
    · rw [← h', ← Nat.add_assoc, blk_succ]

/-- A sum over the devices, taken along the ring from any device in either direction. -/
theorem sum_around (f : Dev nD → EReal) (d : Bool) (c : Dev nD) :
    f c + (f (into d c) + (f (into d (into d c)) + f (into d (into d (into d c))))) = ∑ x, f x := by
  have h : ∀ (d : Bool) (c : Dev nD), ({c, into d c, into d (into d c), into d (into d (into d c))} : Finset (Dev nD)) = Finset.univ
      ∧ c ∉ ({into d c, into d (into d c), into d (into d (into d c))} : Finset (Dev nD))
      ∧ into d c ∉ ({into d (into d c), into d (into d (into d c))} : Finset (Dev nD))
      ∧ into d (into d c) ∉ ({into d (into d (into d c))} : Finset (Dev nD)) := by decide
  obtain ⟨h0, h1, h2, h3⟩ := h d c
  rw [← h0, Finset.sum_insert h1, Finset.sum_insert h2, Finset.sum_insert h3, Finset.sum_singleton]

/-- The completed sum of a chunk. -/
theorem val_three (P : Dev nD → Vec Ideal S512x1024 .f32) (d : Bool) (c : Dev nD) (j : S512x128.Idx) :
    val P d 3 c j = ∑ x, P x ((chR (blk d 3 c)).emb j) := by
  rw [← sum_around (fun x => P x ((chR (blk d 3 c)).emb j)) (!d) c]
  rw [val_add P d 2 (by omega), val_add P d 1 (by omega), val_add P d 0 (by omega), val]
  rw [blk_succ d 0, blk_succ d 1, blk_succ d 0, blk_succ d 2, blk_succ d 1, blk_succ d 0]
  rfl

/-- Every device's result is the sum of the contributions. -/
theorem resultOf_apply (P : Dev nD → Vec Ideal S512x1024 .f32) (c : Dev nD) (i : S512x1024.Idx) :
    resultOf P c i = ∑ x, P x i := by
  have hb : ∀ (c : Dev nD) (b : Fin 8), blk (decide (4 ≤ b.val)) (3 + stepOf c b) c = b := by decide +kernel
  obtain ⟨c', h, h'⟩ := val_tail P (decide (4 ≤ (chunkOf i).val)) (stepOf c (chunkOf i)) c
  unfold resultOf
  rw [h, val_three, ← h', hb, emb_placeOf]

end Cert.KernelIdeal.Ring

end
-- ==== Proof.ReferenceValue.lean ====
/-
# The reference, element by element

The reference's composed term, cut into its stages: projections, scores, maxima, weights, sums, heads, product.  Each stage is
read at one element; together they are the attention formula for each of the 32 heads, times the last matrix.
-/
module

public import proofs.«01_k».proof.Proof.Gen.ReferenceIdeal.Run
public import proofs.«01_k».proof.Proof.Attention
public import Idealize.ShloMosaic.Lib.Pointwise

@[expose] public section

set_option maxRecDepth 16384

noncomputable section

namespace Cert.ReferenceIdeal.Value

open Cert.ReferenceIdeal Cert.ReferenceIdeal.Gen Cert.Attention
open Idealize.ShloMosaic Idealize.ShloMosaic.TcCoe
open scoped BigOperators

section AnyFloat
variable {F : FTy → Type} [FloatOps F]

/-- A projection of the input, cut into 32 heads of 128 columns. -/
def proj (x : FVec F S1x512x1024 .f32) (w : FVec F S1024x4096 .f32) : FVec F S1x512x32x128 .f32 :=
  shapeCast _ (Host.dotGeneral dot_S1x512x1024_S1024x4096_S1x512x4096_2_0_01_1_n_n none x w) shapeCasts_S1x512x4096_S1x512x32x128

/-- The scaled scores. -/
def scoresR (q k : FVec F S1x512x32x128 .f32) : FVec F S1x32x512x512 .f32 :=
  mulf (Host.dotGeneral dot_S1x512x32x128_S1x512x32x128_S1x32x512x512_3_3_1_1_02_02 none q k)
    (broadcastInDim S1x32x512x512 ![] bcast_S_S1x32x512x512 (constant S_ .f32 0x3DB504F3#32))

/-- A row's maximum. -/
def rowMax (s : FVec F S1x32x512x512 .f32) : FVec F S1x32x512 .f32 :=
  Host.reduce FloatOps.maximumf s (constant S_ .f32 0xFF800000#32) reducesTo_S1x32x512x512_S1x32x512_d3 h_S_

/-- A row's maximum, and not less than the lowest number. -/
def peakR (s : FVec F S1x32x512x512 .f32) : FVec F S1x32x512x1 .f32 :=
  maximumf (broadcastInDim S1x32x512x1 ![] bcast_S_S1x32x512x1 (constant S_ .f32 0xFF800000#32))
    (broadcastInDim S1x32x512x1 ![0, 1, 2] bcast_S1x32x512_S1x32x512x1_0_1_2
      (rowMax s))

/-- The weights. -/
def weightsR (s : FVec F S1x32x512x512 .f32) : FVec F S1x32x512x512 .f32 :=
  Host.exp (subf s (broadcastInDim S1x32x512x512 ![0, 1, 2, 3] bcast_S1x32x512x1_S1x32x512x512_0_1_2_3 (peakR s)))

/-- The factor that the empty accumulators are scaled by. -/
def alphaR (s : FVec F S1x32x512x512 .f32) : FVec F S1x32x512x1 .f32 :=
  Host.exp (subf (broadcastInDim S1x32x512x1 ![] bcast_S_S1x32x512x1 (constant S_ .f32 0xFF800000#32)) (peakR s))

/-- The sum of a row's weights, onto an empty accumulator. -/
def sumsR (a : FVec F S1x32x512x1 .f32) (p : FVec F S1x32x512x512 .f32) : FVec F S1x32x512x1 .f32 :=
  addf (mulf (broadcastInDim S1x32x512x1 ![] bcast_S_S1x32x512x1 (constant S_ .f32 0x00000000#32)) a)
    (broadcastInDim S1x32x512x1 ![0, 1, 2] bcast_S1x32x512_S1x32x512x1_0_1_2
      (Host.reduceAdd p (constant S_ .f32 0x00000000#32) reducesTo_S1x32x512x512_S1x32x512_d3 h_S_))

/-- The weighted values, onto an empty accumulator. -/
def mixR (a : FVec F S1x32x512x1 .f32) (p : FVec F S1x32x512x512 .f32) (v : FVec F S1x512x32x128 .f32) : FVec F S1x512x32x128 .f32 :=
  addf (mulf (broadcastInDim S1x512x32x128 ![] bcast_S_S1x512x32x128 (constant S_ .f32 0x00000000#32))
      (broadcastInDim S1x512x32x128 ![0, 1, 2, 3] bcast_S1x512x32x1_S1x512x32x128_0_1_2_3
        (transpose S1x512x32x1 [0, 2, 1, 3] a transposes_S1x32x512x1_S1x512x32x1_0_2_1_3)))
    (transpose S1x512x32x128 [0, 3, 1, 2] (Host.dotGeneral dot_S1x512x32x128_S1x32x512x512_S1x32x128x512_1_3_3_2_02_01 none v p)
      transposes_S1x32x128x512_S1x512x32x128_0_3_1_2)

/-- The heads' outputs: weighted values over sums. -/
def headsR (o : FVec F S1x512x32x128 .f32) (l : FVec F S1x32x512x1 .f32) : FVec F S1x512x32x128 .f32 :=
  Host.divf o (broadcastInDim S1x512x32x128 ![0, 1, 2, 3] bcast_S1x512x32x1_S1x512x32x128_0_1_2_3
    (transpose S1x512x32x1 [0, 2, 1, 3] l transposes_S1x32x512x1_S1x512x32x1_0_2_1_3))

/-- The product of the heads with the last matrix. -/
def outR (o : FVec F S1x512x32x128 .f32) (w : FVec F S4096x1024 .f32) : FVec F S512x1024 .f32 :=
  shapeCast _ (Host.dotGeneral dot_S1x512x4096_S4096x1024_S1x512x1024_2_0_01_1_n_n none
    (shapeCast _ o shapeCasts_S1x512x32x128_S1x512x4096) w) shapeCasts_S1x512x1024_S512x1024

/-- The reference from its five arguments. -/
def wholeR (x : FVec F S1x512x1024 .f32) (wq wk wv : FVec F S1024x4096 .f32) (wo : FVec F S4096x1024 .f32) : FVec F S512x1024 .f32 :=
  outR (headsR (mixR (alphaR (scoresR (proj x wq) (proj x wk))) (weightsR (scoresR (proj x wq) (proj x wk))) (proj x wv))
    (sumsR (alphaR (scoresR (proj x wq) (proj x wk))) (weightsR (scoresR (proj x wq) (proj x wk))))) wo

/-- The printed term is the composition of the stages. -/
theorem res_eq (m : (ℓ : Loc nD τ sig) → Buf (Elt F) ℓ) (c : Dev nD) :
    res_main_v35 m c = wholeR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end AnyFloat

/-- Column `d` of head `h`. -/
def colR (h : Fin 32) (d : Fin 128) : Fin 4096 := ⟨128 * h.val + d.val, by omega⟩
/-- The head of a column, and its place in it. -/
def headNoR (k : Fin 4096) : Fin 32 := ⟨k.val / 128, by omega⟩
def headColR (k : Fin 4096) : Fin 128 := ⟨k.val % 128, by omega⟩

/-- Head `h` of an array by heads. -/
def headR (x : FVec Ideal S1x512x32x128 .f32) (h : Fin 32) : Rows := fun i d => x (ix4 0 i h d)

theorem proj_apply (x : FVec Ideal S1x512x1024 .f32) (w : FVec Ideal S1024x4096 .f32) (i : Fin 512) (h : Fin 32) (d : Fin 128) :
    proj x w (ix4 0 i h d) = times (fun i k => x (ix3 0 i k)) (fun k j => w (ix2 k j)) i (colR h d) := by
  unfold proj
  rw [shapeCast_apply (k := ix3 0 i (colR h d))]
  · pointwise [times]
  · simp only [Shape.rowMajor_val_three, Shape.rowMajor_val_four]; simp [colR]; omega

theorem scoresR_apply (q k : FVec Ideal S1x512x32x128 .f32) (h : Fin 32) (i j : Fin 512) :
    scoresR q k (ix4 0 h i j) = score (headR q h) (headR k h) i j := by
  pointwise [scoresR, score, factor, headR]

/-- The axis of a row's elements. -/
theorem reduces_rows : S1x32x512x512.Reduces [3] S1x32x512 := by decide

theorem rowMax_apply (s : FVec Ideal S1x32x512x512 .f32) (h : Fin 32) (i : Fin 512) :
    rowMax s (ix3 0 h i) = peak fun j => s (ix4 0 h i j) := by
  have e := Host.reduce_eq_fold_single (max : EReal → EReal → EReal) s (constant (F := Ideal) S_ .f32 0xFF800000#32)
    reducesTo_S1x32x512x512_S1x32x512_d3 reduces_rows h_S_ (ix3 0 h i)
  have l : s ∘ reduces_rows.lift (ix3 0 h i) = fun j : Fin 512 => s (ix4 0 h i j) :=
    funext fun j => congrArg s (funext fun a => by fin_cases a <;> rfl)
  rw [l] at e
  exact e

/-- A value per row, repeated along a new axis of length one. -/
theorem perRow_apply (x : FVec Ideal S1x32x512 .f32) (h : Fin 32) (i : Fin 512) :
    broadcastInDim S1x32x512x1 ![0, 1, 2] bcast_S1x32x512_S1x32x512x1_0_1_2 x (ix4 0 h i 0) = x (ix3 0 h i) :=
  broadcastInDim_apply _ _ _ _ _ fun a => by fin_cases a <;> rfl

/-- The lowest number everywhere. -/
theorem lowest_apply (j : S1x32x512x1.Idx) :
    broadcastInDim S1x32x512x1 ![] bcast_S_S1x32x512x1 (constant (F := Ideal) S_ .f32 0xFF800000#32) j = lowest := by
  unfold lowest
  rfl

theorem peakR_apply (s : FVec Ideal S1x32x512x512 .f32) (h : Fin 32) (i : Fin 512) :
    peakR s (ix4 0 h i 0) = peak fun j => s (ix4 0 h i j) := by
  unfold peakR
  rw [maximumf_apply, lowest_apply, perRow_apply, rowMax_apply, Ideal.maximumf_def, max_lowest_peak]

theorem weightsR_apply (s : FVec Ideal S1x32x512x512 .f32) (h : Fin 32) (i j : Fin 512) :
    weightsR s (ix4 0 h i j) = Ideal.exp (s (ix4 0 h i j) - peakR s (ix4 0 h i 0)) := by
  pointwise [weightsR]

theorem sumsR_apply (a : FVec Ideal S1x32x512x1 .f32) (p : FVec Ideal S1x32x512x512 .f32) (h : Fin 32) (i : Fin 512) :
    sumsR a p (ix4 0 h i 0) = ∑ j : Fin 512, p (ix4 0 h i j) := by
  pointwise [sumsR]
  rw [zero_mul, zero_add]

theorem mixR_apply (a : FVec Ideal S1x32x512x1 .f32) (p : FVec Ideal S1x32x512x512 .f32) (v : FVec Ideal S1x512x32x128 .f32)
    (i : Fin 512) (h : Fin 32) (d : Fin 128) :
    mixR a p v (ix4 0 i h d) = ∑ j : Fin 512, v (ix4 0 j h d) * p (ix4 0 h i j) := by
  pointwise [mixR]
  rw [zero_mul, zero_add]

theorem headsR_apply (o : FVec Ideal S1x512x32x128 .f32) (l : FVec Ideal S1x32x512x1 .f32) (i : Fin 512) (h : Fin 32) (d : Fin 128) :
    headsR o l (ix4 0 i h d) = Ideal.div (o (ix4 0 i h d)) (l (ix4 0 h i 0)) := by
  pointwise [headsR]

theorem flat_apply (o : FVec Ideal S1x512x32x128 .f32) (i : Fin 512) (k : Fin 4096) :
    shapeCast S1x512x4096 o shapeCasts_S1x512x32x128_S1x512x4096 (ix3 0 i k) = o (ix4 0 i (headNoR k) (headColR k)) := by
  rw [shapeCast_apply (k := ix4 0 i (headNoR k) (headColR k))]
  simp only [Shape.rowMajor_val_three, Shape.rowMajor_val_four]; simp [headNoR, headColR]; omega

theorem outR_apply (o : FVec Ideal S1x512x32x128 .f32) (w : FVec Ideal S4096x1024 .f32) (i : Fin 512) (j : Fin 1024) :
    outR o w (ix2 i j) = ∑ k : Fin 4096, o (ix4 0 i (headNoR k) (headColR k)) * w (ix2 k j) := by
  simp only [← flat_apply]
  unfold outR
  rw [shapeCast_apply (k := ix3 0 i j)]
  · pointwise
  · simp only [Shape.rowMajor_val_three, Shape.rowMajor_val_two]; simp

/-- Head `h` of a projection: the product of the input with the head's columns of the matrix. -/
theorem headR_proj (x : FVec Ideal S1x512x1024 .f32) (w : FVec Ideal S1024x4096 .f32) (h : Fin 32) :
    headR (proj x w) h = fun i d => times (fun i k => x (ix3 0 i k)) (fun k j => w (ix2 k j)) i (colR h d) := by
  funext i d
  exact proj_apply x w i h d

/-- The heads' outputs are the attention formula at the heads of the projections. -/
theorem attend_apply (q k v : FVec Ideal S1x512x32x128 .f32) (i : Fin 512) (h : Fin 32) (d : Fin 128) :
    headsR (mixR (alphaR (scoresR q k)) (weightsR (scoresR q k)) v) (sumsR (alphaR (scoresR q k)) (weightsR (scoresR q k))) (ix4 0 i h d)
      = attend (headR q h) (headR k h) (headR v h) i d := by
  have e (j : Fin 512) : weightsR (scoresR q k) (ix4 0 h i j) = weight (headR q h) (headR k h) i j := by
    rw [weightsR_apply, peakR_apply]
    simp only [scoresR_apply]
    rfl
  rw [headsR_apply, mixR_apply, sumsR_apply]
  simp only [e]
  unfold attend
  simp only [mul_comm (weight _ _ _ _)]
  rfl

/-- The reference's result: the heads' outputs, column by column, times the last matrix. -/
theorem wholeR_apply (x : FVec Ideal S1x512x1024 .f32) (wq wk wv : FVec Ideal S1024x4096 .f32) (wo : FVec Ideal S4096x1024 .f32)
    (i : Fin 512) (j : Fin 1024) :
    wholeR x wq wk wv wo (ix2 i j)
      = ∑ k : Fin 4096, attend (headR (proj x wq) (headNoR k)) (headR (proj x wk) (headNoR k)) (headR (proj x wv) (headNoR k)) i
          (headColR k) * wo (ix2 k j) := by
  unfold wholeR
  rw [outR_apply]
  simp only [attend_apply]

end Cert.ReferenceIdeal.Value

end
-- ==== Proof.Blocks.lean ====
/-
# Four devices' blocks and the whole

Device `c` holds columns `1024 c` to `1024 c + 1023` of the three projections' matrices, that is heads `8 c` to `8 c + 7`, and
the same rows of the last matrix.  So the four devices' contributions add to the reference's sum over all 4096 columns.
-/
module

public import proofs.«01_k».proof.Proof.HeadKernelIdeal
public import proofs.«01_k».proof.Proof.AroundKernelIdeal
public import proofs.«01_k».proof.Proof.ReferenceValue
public import Idealize.ShloMosaic.Lib.Layout

@[expose] public section

set_option maxRecDepth 16384

noncomputable section

namespace Cert.Attention

open Cert.KernelIdeal Cert.KernelIdeal.Gen Cert.KernelIdeal.Ring Cert.ReferenceIdeal.Value
open Idealize.ShloMosaic
open scoped BigOperators

/-- Column `k` of device `c`'s block. -/
def spot (c : Fin 4) (k : Fin 1024) : Fin 4096 := ⟨1024 * c.val + k.val, by omega⟩
/-- Head `b` of device `c`. -/
def headAt (c : Fin 4) (b : Fin 8) : Fin 32 := ⟨8 * c.val + b.val, by omega⟩

/-- A sum over all columns is the sum of the devices' sums over their own. -/
theorem sum_spots (f : Fin 4096 → EReal) : ∑ k, f k = ∑ c : Fin 4, ∑ k : Fin 1024, f (spot c k) := by
  rw [← Fintype.sum_prod_type', ← (finProdFinEquiv (m := 4) (n := 1024)).sum_comp f]
  refine Finset.sum_congr rfl fun p _ => congrArg f (Fin.ext ?_)
  show p.2.val + 1024 * p.1.val = 1024 * p.1.val + p.2.val
  omega

theorem headNoR_spot (c : Fin 4) (k : Fin 1024) : headNoR (spot c k) = headAt c (headNo k) :=
  Fin.ext (by show (1024 * c.val + k.val) / 128 = 8 * c.val + k.val / 128; omega)
theorem headColR_spot (c : Fin 4) (k : Fin 1024) : headColR (spot c k) = headCol k :=
  Fin.ext (by show (1024 * c.val + k.val) % 128 = k.val % 128; omega)
theorem spot_col (c : Fin 4) (b : Fin 8) (d : Fin 128) : spot c (col b d) = colR (headAt c b) d :=
  Fin.ext (by show 1024 * c.val + (128 * b.val + d.val) = 128 * (8 * c.val + b.val) + d.val; omega)

/-- Device `c`'s block of columns. -/
theorem block_cols (w : FVec Ideal ⟨2, ![1024, 4096]⟩ .f32) (c : Fin 4) (h : Layout.Tiles ⟨2, ![1024, 1024]⟩ ⟨2, ![1024, 4096]⟩ 1 4)
    (k l : Fin 1024) : Layout.block ⟨2, ![1024, 1024]⟩ ⟨2, ![1024, 4096]⟩ 1 4 c w h (ix2 k l) = w (ix2 k (spot c l)) := by
  refine congrArg w (funext fun a => Fin.ext ?_)
  match a with
  | ⟨0, _⟩ => rfl
  | ⟨1, _⟩ => show c.val * 1024 + l.val = 1024 * c.val + l.val; omega

/-- Device `c`'s block of rows. -/
theorem block_rows (w : FVec Ideal ⟨2, ![4096, 1024]⟩ .f32) (c : Fin 4) (h : Layout.Tiles ⟨2, ![1024, 1024]⟩ ⟨2, ![4096, 1024]⟩ 0 4)
    (k l : Fin 1024) : Layout.block ⟨2, ![1024, 1024]⟩ ⟨2, ![4096, 1024]⟩ 0 4 c w h (ix2 k l) = w (ix2 (spot c k) l) := by
  refine congrArg w (funext fun a => Fin.ext ?_)
  match a with
  | ⟨0, _⟩ => show c.val * 1024 + k.val = 1024 * c.val + k.val; omega
  | ⟨1, _⟩ => rfl

/-- Head `b` of device `c`'s projection is head `8 c + b` of the whole projection. -/
theorem headRows_block (x : FVec Ideal S1x512x1024 .f32) (w : FVec Ideal ⟨2, ![1024, 4096]⟩ .f32) (c : Fin 4)
    (h : Layout.Tiles ⟨2, ![1024, 1024]⟩ ⟨2, ![1024, 4096]⟩ 1 4) (b : Fin 8) :
    headRows (input x) (entries (Layout.block ⟨2, ![1024, 1024]⟩ ⟨2, ![1024, 4096]⟩ 1 4 c w h)) b = headR (proj x w) (headAt c b) := by
  rw [headR_proj]
  funext i d
  unfold headRows times entries input
  simp only [block_cols, spot_col]

/-- The four devices' contributions, each from its own blocks, add to the reference's result. -/
theorem sum_partials (x : FVec Ideal S1x512x1024 .f32) (wq wk wv : FVec Ideal ⟨2, ![1024, 4096]⟩ .f32)
    (wo : FVec Ideal ⟨2, ![4096, 1024]⟩ .f32) (hc : Layout.Tiles ⟨2, ![1024, 1024]⟩ ⟨2, ![1024, 4096]⟩ 1 4)
    (hr : Layout.Tiles ⟨2, ![1024, 1024]⟩ ⟨2, ![4096, 1024]⟩ 0 4) (P : Dev nD → Vec Ideal S512x1024 .f32)
    (hP : ∀ c, P c = partialOf x (Layout.block ⟨2, ![1024, 1024]⟩ ⟨2, ![1024, 4096]⟩ 1 4 c wq hc)
      (Layout.block ⟨2, ![1024, 1024]⟩ ⟨2, ![4096, 1024]⟩ 0 4 c wo hr)
      (Layout.block ⟨2, ![1024, 1024]⟩ ⟨2, ![1024, 4096]⟩ 1 4 c wk hc)
      (Layout.block ⟨2, ![1024, 1024]⟩ ⟨2, ![1024, 4096]⟩ 1 4 c wv hc)) (c : Dev nD) :
    resultOf P c = wholeR x wq wk wv wo := by
  funext y
  obtain ⟨i, j, rfl⟩ : ∃ i j, y = ix2 i j := ⟨y 0, y 1, eq_ix2 y⟩
  rw [resultOf_apply, wholeR_apply, sum_spots]
  refine Finset.sum_congr rfl fun d _ => ?_
  rw [hP d, partialOf_apply]
  refine Finset.sum_congr rfl fun k _ => ?_
  rw [headRows_block, headRows_block, headRows_block, block_rows, headNoR_spot, headColR_spot]

end Cert.Attention

end
-- ==== Proof.Agreement.lean ====
/-
# The kernel and the reference agree

From matching arguments, every device of the kernel ends with the reference's result.
-/
module

public import proofs.«01_k».proof.Proof.ResultKernelIdeal
public import proofs.«01_k».proof.Proof.Blocks
public import proofs.«01_k».proof.Defs

@[expose] public section

set_option maxRecDepth 16384

noncomputable section

namespace Cert.Attention

open Idealize.ShloMosaic Idealize.ShloMosaic.TcCoe Idealize.SL.Sem

/-- Over the extended reals, when each device's arguments are its blocks of the reference's, the kernel's result on every
    device is the reference's. -/
theorem agreement : algebraic_KernelIdeal_ReferenceIdeal (hKernelIdeal := Cert.KernelIdeal.Gen.facts)
    (hReferenceIdeal := Cert.ReferenceIdeal.Gen.facts) := by
  intro m g m' g' _ hm
  refine ⟨Cert.ReferenceIdeal.Value.res_main_v35 m' 0, ?_, ?_⟩
  · refine (θ_run Cert.KernelIdeal.defs _ _).mono (fun r h c => ⟨(h c).1.trans ?_, (h c).2⟩) (Cert.KernelIdeal.Ring.run_result m g)
    rw [Cert.KernelIdeal.Ring.resultA_eq, Cert.ReferenceIdeal.Value.res_eq]
    refine sum_partials _ _ _ _ _ (by decide) (by decide) _ (fun d => ?_) c
    unfold Cert.KernelIdeal.Ring.shareOf
    obtain ⟨h0, h1, h2, h3, h4⟩ := hm d
    rw [Cert.KernelIdeal.Ring.xAt_eq, Cert.KernelIdeal.Ring.wqAt_eq, Cert.KernelIdeal.Ring.woAt_eq,
      Cert.KernelIdeal.Ring.wkAt_eq, Cert.KernelIdeal.Ring.wvAt_eq, h0, h1, h2, h3, h4]
  · exact (θ_run Cert.ReferenceIdeal.defs _ _).mono (fun r h => h 0) (Cert.ReferenceIdeal.Value.run m' g')

end Cert.Attention

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FramesKernel
public import proofs.«01_k».proof.Proof.FramesKernelIdeal
public import proofs.«01_k».proof.Proof.FramesReferenceIdeal
public import proofs.«01_k».proof.Proof.Agreement
public import Idealize.ShloMosaic.Adequacy
public import Idealize.ShloMosaic.Init

@[expose] public section

noncomputable section

namespace Cert.Proof

open Idealize.ShloMosaic Idealize.SL.Sem Cert.Kernel

/-- The three frames, the preservation and the agreement of kernel and reference. -/
theorem claim : Cert.Claim := ⟨Cert.Kernel.Gen.facts, Cert.KernelIdeal.Gen.facts, Cert.ReferenceIdeal.Gen.facts,
  fun m g _ => Cert.Kernel.Ring.run_frame m g,
  fun m g _ => Cert.KernelIdeal.Ring.run_frame m g,
  fun m g _ => Cert.ReferenceIdeal.Value.run_frame m g,
  trivial,
  Cert.Attention.agreement⟩

end Cert.Proof

end
